-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "renorm" .f32 0x3F924925#32 ((8 / 7 : ℝ) : EReal)
  ∧ IdealRules.named_const.Statement Cert.KernelIdeal.κ "mask" .f32 0xCE6E6B28#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v319) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x32x16x16x16 : Shape := ⟨5, ![1, 32, 16, 16, 16]⟩
abbrev S1x3x32x32x32 : Shape := ⟨5, ![1, 3, 32, 32, 32]⟩
abbrev S1x1x16x16x16 : Shape := ⟨5, ![1, 1, 16, 16, 16]⟩
abbrev S33x2x16 : Shape := ⟨3, ![33, 2, 16]⟩
abbrev S33x1024 : Shape := ⟨2, ![33, 1024]⟩
abbrev S32x16x16x16 : Shape := ⟨4, ![32, 16, 16, 16]⟩
abbrev S32x16x16x1x16x1 : Shape := ⟨6, ![32, 16, 16, 1, 16, 1]⟩
abbrev S32x16x16x2x16x2 : Shape := ⟨6, ![32, 16, 16, 2, 16, 2]⟩
abbrev S32x16x1024 : Shape := ⟨3, ![32, 16, 1024]⟩
abbrev S3x32x32x32 : Shape := ⟨4, ![3, 32, 32, 32]⟩
abbrev S3x16x2x1024 : Shape := ⟨4, ![3, 16, 2, 1024]⟩
abbrev S2x3x16x1024 : Shape := ⟨4, ![2, 3, 16, 1024]⟩
abbrev S1x16x16x16 : Shape := ⟨4, ![1, 16, 16, 16]⟩
abbrev S4x16x16x16 : Shape := ⟨4, ![4, 16, 16, 16]⟩
abbrev S4x16x16x1x16x1 : Shape := ⟨6, ![4, 16, 16, 1, 16, 1]⟩
abbrev S4x16x16x2x16x2 : Shape := ⟨6, ![4, 16, 16, 2, 16, 2]⟩
abbrev S4x16x1024 : Shape := ⟨3, ![4, 16, 1024]⟩
abbrev S2x32x16x1024 : Shape := ⟨4, ![2, 32, 16, 1024]⟩
abbrev S5x7x20x1024 : Shape := ⟨4, ![5, 7, 20, 1024]⟩
abbrev S5x32x20x1024 : Shape := ⟨4, ![5, 32, 20, 1024]⟩
abbrev S33x2x16x1024 : Shape := ⟨4, ![33, 2, 16, 1024]⟩
abbrev S2x16x1024 : Shape := ⟨3, ![2, 16, 1024]⟩
abbrev S16x1024 : Shape := ⟨2, ![16, 1024]⟩
abbrev S1x16x1024 : Shape := ⟨3, ![1, 16, 1024]⟩
abbrev S16x64 : Shape := ⟨2, ![16, 64]⟩
abbrev S16x960 : Shape := ⟨2, ![16, 960]⟩
abbrev S16x2 : Shape := ⟨2, ![16, 2]⟩
abbrev S16x1022 : Shape := ⟨2, ![16, 1022]⟩
abbrev S1x1024 : Shape := ⟨2, ![1, 1024]⟩
abbrev S15x1024 : Shape := ⟨2, ![15, 1024]⟩
abbrev S1x3x16x1024 : Shape := ⟨4, ![1, 3, 16, 1024]⟩
abbrev S3x16x1024 : Shape := ⟨3, ![3, 16, 1024]⟩
abbrev S3x1x1024 : Shape := ⟨3, ![3, 1, 1024]⟩
abbrev S3x15x1024 : Shape := ⟨3, ![3, 15, 1024]⟩
abbrev S3x16x32 : Shape := ⟨3, ![3, 16, 32]⟩
abbrev S3x16x992 : Shape := ⟨3, ![3, 16, 992]⟩
abbrev S3x16x64 : Shape := ⟨3, ![3, 16, 64]⟩
abbrev S3x16x960 : Shape := ⟨3, ![3, 16, 960]⟩
abbrev S3x16x1 : Shape := ⟨3, ![3, 16, 1]⟩
abbrev S3x16x1023 : Shape := ⟨3, ![3, 16, 1023]⟩
abbrev S3x16x2 : Shape := ⟨3, ![3, 16, 2]⟩
abbrev S3x16x1022 : Shape := ⟨3, ![3, 16, 1022]⟩
abbrev S16x4 : Shape := ⟨2, ![16, 4]⟩
abbrev S16x1020 : Shape := ⟨2, ![16, 1020]⟩
abbrev S20x1024 : Shape := ⟨2, ![20, 1024]⟩
abbrev S1x1x20x1024 : Shape := ⟨4, ![1, 1, 20, 1024]⟩
abbrev S32x16x2 : Shape := ⟨3, ![32, 16, 2]⟩
abbrev S32x16x1022 : Shape := ⟨3, ![32, 16, 1022]⟩
abbrev S32x16x4 : Shape := ⟨3, ![32, 16, 4]⟩
abbrev S32x16x1020 : Shape := ⟨3, ![32, 16, 1020]⟩
abbrev S32x1x1024 : Shape := ⟨3, ![32, 1, 1024]⟩
abbrev S32x20x1024 : Shape := ⟨3, ![32, 20, 1024]⟩
abbrev S1x32x20x1024 : Shape := ⟨4, ![1, 32, 20, 1024]⟩
abbrev S20x64 : Shape := ⟨2, ![20, 64]⟩
abbrev S20x896 : Shape := ⟨2, ![20, 896]⟩
abbrev S1x2x16 : Shape := ⟨3, ![1, 2, 16]⟩
abbrev S2x16 : Shape := ⟨2, ![2, 16]⟩
abbrev S2x16x1 : Shape := ⟨3, ![2, 16, 1]⟩
abbrev S1024 : Shape := ⟨1, ![1024]⟩
abbrev S1x1x1024 : Shape := ⟨3, ![1, 1, 1024]⟩
abbrev S2x1x16x1024 : Shape := ⟨4, ![2, 1, 16, 1024]⟩
abbrev S1x2x16x1024 : Shape := ⟨4, ![1, 2, 16, 1024]⟩
abbrev S20x960 : Shape := ⟨2, ![20, 960]⟩
abbrev S1x4x20x1024 : Shape := ⟨4, ![1, 4, 20, 1024]⟩
abbrev S4x20x1024 : Shape := ⟨3, ![4, 20, 1024]⟩
abbrev S4x20x64 : Shape := ⟨3, ![4, 20, 64]⟩
abbrev S4x20x896 : Shape := ⟨3, ![4, 20, 896]⟩
abbrev S1x4x16x1024 : Shape := ⟨4, ![1, 4, 16, 1024]⟩
abbrev S2x4x16x1024 : Shape := ⟨4, ![2, 4, 16, 1024]⟩
abbrev S4x20x960 : Shape := ⟨3, ![4, 20, 960]⟩
abbrev S32x16x2x1024 : Shape := ⟨4, ![32, 16, 2, 1024]⟩
abbrev S32x32x32x32 : Shape := ⟨4, ![32, 32, 32, 32]⟩
abbrev S1x32x32x32x32 : Shape := ⟨5, ![1, 32, 32, 32, 32]⟩

abbrev nBuf : Space → Nat
  | .hbm => 28
  | .vmem => 11
  | .smem => 0
  | _ => 0

abbrev bufTy : (tb : Table) → Fin (tcTables nBuf tb) → BufTy
  | .hbm, ⟨0, _⟩ => ⟨S1x32x16x16x16, .f32⟩
  | .hbm, ⟨1, _⟩ => ⟨S1x3x32x32x32, .f32⟩
  | .hbm, ⟨2, _⟩ => ⟨S1x1x16x16x16, .f32⟩
  | .hbm, ⟨3, _⟩ => ⟨S1x1x16x16x16, .f32⟩
  | .hbm, ⟨4, _⟩ => ⟨S1x1x16x16x16, .f32⟩
  | .hbm, ⟨5, _⟩ => ⟨S1x1x16x16x16, .f32⟩
  | .hbm, ⟨6, _⟩ => ⟨S33x2x16, .f32⟩
  | .hbm, ⟨7, _⟩ => ⟨S33x1024, .f32⟩
  | .hbm, ⟨8, _⟩ => ⟨S33x1024, .f32⟩
  | .hbm, ⟨9, _⟩ => ⟨S32x16x16x16, .f32⟩
  | .hbm, ⟨10, _⟩ => ⟨S32x16x16x1x16x1, .f32⟩
  | .hbm, ⟨11, _⟩ => ⟨S32x16x16x2x16x2, .f32⟩
  | .hbm, ⟨12, _⟩ => ⟨S32x16x1024, .f32⟩
  | .hbm, ⟨13, _⟩ => ⟨S3x32x32x32, .f32⟩
  | .hbm, ⟨14, _⟩ => ⟨S3x16x2x1024, .f32⟩
  | .hbm, ⟨15, _⟩ => ⟨S2x3x16x1024, .f32⟩
  | .hbm, ⟨16, _⟩ => ⟨S1x16x16x16, .f32⟩
  | .hbm, ⟨17, _⟩ => ⟨S1x16x16x16, .f32⟩
  | .hbm, ⟨18, _⟩ => ⟨S1x16x16x16, .f32⟩
  | .hbm, ⟨19, _⟩ => ⟨S1x16x16x16, .f32⟩
  | .hbm, ⟨20, _⟩ => ⟨S4x16x16x16, .f32⟩
  | .hbm, ⟨21, _⟩ => ⟨S4x16x16x1x16x1, .f32⟩
  | .hbm, ⟨22, _⟩ => ⟨S4x16x16x2x16x2, .f32⟩
  | .hbm, ⟨23, _⟩ => ⟨S4x16x1024, .f32⟩
  | .hbm, ⟨24, _⟩ => ⟨S2x32x16x1024, .f32⟩
  | .hbm, ⟨25, _⟩ => ⟨S32x16x2x1024, .f32⟩
  | .hbm, ⟨26, _⟩ => ⟨S32x32x32x32, .f32⟩
  | .hbm, ⟨27, _⟩ => ⟨S1x32x32x32x32, .f32⟩
  | .local _ .vmem, ⟨0, _⟩ => ⟨S32x16x1024, .f32⟩
  | .local _ .vmem, ⟨1, _⟩ => ⟨S2x3x16x1024, .f32⟩
  | .local _ .vmem, ⟨2, _⟩ => ⟨S4x16x1024, .f32⟩
  | .local _ .vmem, ⟨3, _⟩ => ⟨S33x2x16, .f32⟩
  | .local _ .vmem, ⟨4, _⟩ => ⟨S33x1024, .f32⟩
  | .local _ .vmem, ⟨5, _⟩ => ⟨S33x1024, .f32⟩
  | .local _ .vmem, ⟨6, _⟩ => ⟨S2x32x16x1024, .f32⟩
  | .local _ .vmem, ⟨7, _⟩ => ⟨S5x7x20x1024, .f32⟩
  | .local _ .vmem, ⟨8, _⟩ => ⟨S5x32x20x1024, .f32⟩
  | .local _ .vmem, ⟨9, _⟩ => ⟨S33x2x16x1024, .f32⟩
  | .local _ .vmem, ⟨10, _⟩ => ⟨S2x16x1024, .f32⟩
  | _, _ => ⟨S1x32x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3x16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S33x2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S33x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S33x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x32x16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "renorm" => some ((8 / 7 : ℝ) : EReal)
  | _ => none
-- ==== ReferenceIdeal.lean ====
abbrev S1x32x16x16x16 : Shape := ⟨5, ![1, 32, 16, 16, 16]⟩
abbrev S1x3x32x32x32 : Shape := ⟨5, ![1, 3, 32, 32, 32]⟩
abbrev S1x1x16x16x16 : Shape := ⟨5, ![1, 1, 16, 16, 16]⟩
abbrev S32 : Shape := ⟨1, ![32]⟩
abbrev S32x32x32 : Shape := ⟨3, ![32, 32, 32]⟩
abbrev S_ : Shape := ⟨0, ![]⟩
abbrev S16x16x16 : Shape := ⟨3, ![16, 16, 16]⟩
abbrev S32x1 : Shape := ⟨2, ![32, 1]⟩
abbrev S16 : Shape := ⟨1, ![16]⟩
abbrev S1x16 : Shape := ⟨2, ![1, 16]⟩
abbrev S32x16 : Shape := ⟨2, ![32, 16]⟩
abbrev S32x16x16 : Shape := ⟨3, ![32, 16, 16]⟩
abbrev S32x32x16 : Shape := ⟨3, ![32, 32, 16]⟩
abbrev S5 : Shape := ⟨1, ![5]⟩
abbrev S5x5x5 : Shape := ⟨3, ![5, 5, 5]⟩
abbrev S125 : Shape := ⟨1, ![125]⟩
abbrev S1x32x32x32 : Shape := ⟨4, ![1, 32, 32, 32]⟩
abbrev S125x1x1x1 : Shape := ⟨4, ![125, 1, 1, 1]⟩
abbrev S125x32x32x32 : Shape := ⟨4, ![125, 32, 32, 32]⟩
abbrev S4096 : Shape := ⟨1, ![4096]⟩
abbrev S125x32x32x32x1 : Shape := ⟨5, ![125, 32, 32, 32, 1]⟩
abbrev S3x32x32x32 : Shape := ⟨4, ![3, 32, 32, 32]⟩
abbrev S16x1 : Shape := ⟨2, ![16, 1]⟩
abbrev S1x32 : Shape := ⟨2, ![1, 32]⟩
abbrev S16x32 : Shape := ⟨2, ![16, 32]⟩
abbrev S16x3x32x32 : Shape := ⟨4, ![16, 3, 32, 32]⟩
abbrev S3x16x32x32 : Shape := ⟨4, ![3, 16, 32, 32]⟩
abbrev S16x3x16x32 : Shape := ⟨4, ![16, 3, 16, 32]⟩
abbrev S3x16x16x32 : Shape := ⟨4, ![3, 16, 16, 32]⟩
abbrev S3x16x16x16 : Shape := ⟨4, ![3, 16, 16, 16]⟩
abbrev S1x1x32x32x32 : Shape := ⟨5, ![1, 1, 32, 32, 32]⟩
abbrev S1x16x16x16 : Shape := ⟨4, ![1, 16, 16, 16]⟩
abbrev S32x16x16x16 : Shape := ⟨4, ![32, 16, 16, 16]⟩
abbrev S16x16x16x32 : Shape := ⟨4, ![16, 16, 16, 32]⟩
abbrev S4096x32 : Shape := ⟨2, ![4096, 32]⟩
abbrev S125x32x32x32x32 : Shape := ⟨5, ![125, 32, 32, 32, 32]⟩
abbrev S32x32x32x32 : Shape := ⟨4, ![32, 32, 32, 32]⟩
abbrev S1x32x32x32x32 : Shape := ⟨5, ![1, 32, 32, 32, 32]⟩

abbrev nBuf : Space → Nat
  | .hbm => 443
  | .vmem => 0
  | .smem => 0
  | _ => 0

abbrev hbmTy0_0 (i : Nat) : BufTy := match i % 128 with
  | 0 => ⟨S1x32x16x16x16, .f32⟩
  | 1 => ⟨S1x3x32x32x32, .f32⟩
  | 2 => ⟨S1x1x16x16x16, .f32⟩
  | 3 => ⟨S1x1x16x16x16, .f32⟩
  | 4 => ⟨S1x1x16x16x16, .f32⟩
  | 5 => ⟨S1x1x16x16x16, .f32⟩
  | 6 => ⟨S1x1x16x16x16, .f32⟩
  | 7 => ⟨S1x1x16x16x16, .f32⟩
  | 8 => ⟨S1x1x16x16x16, .f32⟩
  | 9 => ⟨S1x1x16x16x16, .f32⟩
  | 10 => ⟨S32, .f32⟩
  | 11 => ⟨S32, .f32⟩
  | 12 => ⟨S32, .f32⟩
  | 13 => ⟨S32x32x32, .f32⟩
  | 14 => ⟨S32x32x32, .f32⟩
  | 15 => ⟨S32x32x32, .f32⟩
  | 16 => ⟨S_, .f32⟩
  | 17 => ⟨S32x32x32, .f32⟩
  | 18 => ⟨S32x32x32, .f32⟩
  | 19 => ⟨S_, .f32⟩
  | 20 => ⟨S32x32x32, .f32⟩
  | 21 => ⟨S32x32x32, .f32⟩
  | 22 => ⟨S_, .f32⟩
  | 23 => ⟨S32x32x32, .f32⟩
  | 24 => ⟨S32x32x32, .f32⟩
  | 25 => ⟨S_, .f32⟩
  | 26 => ⟨S32x32x32, .f32⟩
  | 27 => ⟨S32x32x32, .f32⟩
  | 28 => ⟨S_, .f32⟩
  | 29 => ⟨S32x32x32, .f32⟩
  | 30 => ⟨S32x32x32, .f32⟩
  | 31 => ⟨S_, .f32⟩
  | 32 => ⟨S32x32x32, .f32⟩
  | 33 => ⟨S32x32x32, .f32⟩
  | 34 => ⟨S_, .f32⟩
  | 35 => ⟨S32x32x32, .f32⟩
  | 36 => ⟨S32x32x32, .f32⟩
  | 37 => ⟨S_, .f32⟩
  | 38 => ⟨S32x32x32, .f32⟩
  | 39 => ⟨S32x32x32, .f32⟩
  | 40 => ⟨S_, .f32⟩
  | 41 => ⟨S32x32x32, .f32⟩
  | 42 => ⟨S32x32x32, .f32⟩
  | 43 => ⟨S32x32x32, .f32⟩
  | 44 => ⟨S_, .i32⟩
  | 45 => ⟨S_, .i32⟩
  | 46 => ⟨S_, .f32⟩
  | 47 => ⟨S32x32x32, .f32⟩
  | 48 => ⟨S32x32x32, .f32⟩
  | 49 => ⟨S_, .f32⟩
  | 50 => ⟨S32x32x32, .f32⟩
  | 51 => ⟨S32x32x32, .f32⟩
  | 52 => ⟨S32x32x32, .i32⟩
  | 53 => ⟨S32x32x32, .f32⟩
  | 54 => ⟨S_, .i32⟩
  | 55 => ⟨S_, .i32⟩
  | 56 => ⟨S_, .f32⟩
  | 57 => ⟨S32x32x32, .f32⟩
  | 58 => ⟨S32x32x32, .f32⟩
  | 59 => ⟨S_, .f32⟩
  | 60 => ⟨S32x32x32, .f32⟩
  | 61 => ⟨S32x32x32, .f32⟩
  | 62 => ⟨S32x32x32, .i32⟩
  | 63 => ⟨S32x32x32, .f32⟩
  | 64 => ⟨S_, .i32⟩
  | 65 => ⟨S_, .i32⟩
  | 66 => ⟨S_, .f32⟩
  | 67 => ⟨S32x32x32, .f32⟩
  | 68 => ⟨S32x32x32, .f32⟩
  | 69 => ⟨S_, .f32⟩
  | 70 => ⟨S32x32x32, .f32⟩
  | 71 => ⟨S32x32x32, .f32⟩
  | 72 => ⟨S32x32x32, .i32⟩
  | 73 => ⟨S1x1x16x16x16, .f32⟩
  | 74 => ⟨S1x1x16x16x16, .f32⟩
  | 75 => ⟨S16x16x16, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S32x1, .f32⟩
  | 87 => ⟨S16, .f32⟩
  | 88 => ⟨S1x16, .f32⟩
  | 89 => ⟨S32x16, .f32⟩
  | 90 => ⟨S32x16, .f32⟩
  | 91 => ⟨S32x16, .f32⟩
  | 92 => ⟨S32x16, .f32⟩
  | 93 => ⟨S_, .f32⟩
  | 94 => ⟨S32x16, .f32⟩
  | 95 => ⟨S32x16, .f32⟩
  | 96 => ⟨S_, .f32⟩
  | 97 => ⟨S32x16, .f32⟩
  | 98 => ⟨S32x16, .f32⟩
  | 99 => ⟨S_, .f32⟩
  | 100 => ⟨S32x16, .f32⟩
  | 101 => ⟨S32x16, .f32⟩
  | 102 => ⟨S_, .f32⟩
  | 103 => ⟨S32, .f32⟩
  | 104 => ⟨S32x1, .f32⟩
  | 105 => ⟨S32x16, .f32⟩
  | 106 => ⟨S32x16, .f32⟩
  | 107 => ⟨S32x16x16, .f32⟩
  | 108 => ⟨S32x32x16, .f32⟩
  | 109 => ⟨S32x32x16, .f32⟩
  | 110 => ⟨S32x32x32, .f32⟩
  | 111 => ⟨S_, .f32⟩
  | 112 => ⟨S32x32x32, .f32⟩
  | 113 => ⟨S32x32x32, .f32⟩
  | 114 => ⟨S32x32x32, .f32⟩
  | 115 => ⟨S_, .f32⟩
  | 116 => ⟨S_, .f32⟩
  | 117 => ⟨S_, .f32⟩
  | 118 => ⟨S32x32x32, .f32⟩
  | 119 => ⟨S32x32x32, .f32⟩
  | 120 => ⟨S_, .f32⟩
  | 121 => ⟨S32x32x32, .f32⟩
  | 122 => ⟨S32x32x32, .f32⟩
  | 123 => ⟨S5, .i32⟩
  | 124 => ⟨S_, .i32⟩
  | 125 => ⟨S5, .i32⟩
  | 126 => ⟨S5, .i32⟩
  | 127 => ⟨S5x5x5, .i32⟩
  | _ => ⟨S1x32x16x16x16, .f32⟩

abbrev hbmTy0_1 (i : Nat) : BufTy := match i % 128 with
  | 0 => ⟨S5x5x5, .i32⟩
  | 1 => ⟨S5x5x5, .i32⟩
  | 2 => ⟨S125, .i32⟩
  | 3 => ⟨S125, .i32⟩
  | 4 => ⟨S125, .i32⟩
  | 5 => ⟨S1x32x32x32, .i32⟩
  | 6 => ⟨S125x1x1x1, .i32⟩
  | 7 => ⟨S125x32x32x32, .i32⟩
  | 8 => ⟨S125x32x32x32, .i32⟩
  | 9 => ⟨S125x32x32x32, .i32⟩
  | 10 => ⟨S_, .i32⟩
  | 11 => ⟨S_, .i32⟩
  | 12 => ⟨S_, .i32⟩
  | 13 => ⟨S125x32x32x32, .i32⟩
  | 14 => ⟨S125x32x32x32, .i32⟩
  | 15 => ⟨S_, .i32⟩
  | 16 => ⟨S125x32x32x32, .i32⟩
  | 17 => ⟨S125x32x32x32, .i32⟩
  | 18 => ⟨S1x32x32x32, .i32⟩
  | 19 => ⟨S125x1x1x1, .i32⟩
  | 20 => ⟨S125x32x32x32, .i32⟩
  | 21 => ⟨S125x32x32x32, .i32⟩
  | 22 => ⟨S125x32x32x32, .i32⟩
  | 23 => ⟨S_, .i32⟩
  | 24 => ⟨S_, .i32⟩
  | 25 => ⟨S_, .i32⟩
  | 26 => ⟨S125x32x32x32, .i32⟩
  | 27 => ⟨S125x32x32x32, .i32⟩
  | 28 => ⟨S_, .i32⟩
  | 29 => ⟨S125x32x32x32, .i32⟩
  | 30 => ⟨S125x32x32x32, .i32⟩
  | 31 => ⟨S1x32x32x32, .i32⟩
  | 32 => ⟨S125x1x1x1, .i32⟩
  | 33 => ⟨S125x32x32x32, .i32⟩
  | 34 => ⟨S125x32x32x32, .i32⟩
  | 35 => ⟨S125x32x32x32, .i32⟩
  | 36 => ⟨S_, .i32⟩
  | 37 => ⟨S_, .i32⟩
  | 38 => ⟨S_, .i32⟩
  | 39 => ⟨S125x32x32x32, .i32⟩
  | 40 => ⟨S125x32x32x32, .i32⟩
  | 41 => ⟨S_, .i32⟩
  | 42 => ⟨S125x32x32x32, .i32⟩
  | 43 => ⟨S125x32x32x32, .i32⟩
  | 44 => ⟨S125, .i32⟩
  | 45 => ⟨S125, .i32⟩
  | 46 => ⟨S125, .i32⟩
  | 47 => ⟨S125, .i32⟩
  | 48 => ⟨S125, .i32⟩
  | 49 => ⟨S125, .f32⟩
  | 50 => ⟨S125x1x1x1, .f32⟩
  | 51 => ⟨S1x32x32x32, .f32⟩
  | 52 => ⟨S1x32x32x32, .f32⟩
  | 53 => ⟨S125x32x32x32, .f32⟩
  | 54 => ⟨S125x32x32x32, .f32⟩
  | 55 => ⟨S125x32x32x32, .i1⟩
  | 56 => ⟨S1x32x32x32, .f32⟩
  | 57 => ⟨S125x32x32x32, .f32⟩
  | 58 => ⟨S_, .f32⟩
  | 59 => ⟨S125x32x32x32, .f32⟩
  | 60 => ⟨S125x32x32x32, .f32⟩
  | 61 => ⟨S_, .f32⟩
  | 62 => ⟨S125x32x32x32, .f32⟩
  | 63 => ⟨S125x32x32x32, .f32⟩
  | 64 => ⟨S_, .f32⟩
  | 65 => ⟨S125x32x32x32, .f32⟩
  | 66 => ⟨S125x32x32x32, .f32⟩
  | 67 => ⟨S125x32x32x32, .f32⟩
  | 68 => ⟨S125x32x32x32, .f32⟩
  | 69 => ⟨S1x32x32x32, .f32⟩
  | 70 => ⟨S125x32x32x32, .f32⟩
  | 71 => ⟨S_, .f32⟩
  | 72 => ⟨S125x32x32x32, .f32⟩
  | 73 => ⟨S125x32x32x32, .f32⟩
  | 74 => ⟨S_, .f32⟩
  | 75 => ⟨S125x32x32x32, .f32⟩
  | 76 => ⟨S125x32x32x32, .f32⟩
  | 77 => ⟨S_, .f32⟩
  | 78 => ⟨S125x32x32x32, .f32⟩
  | 79 => ⟨S125x32x32x32, .f32⟩
  | 80 => ⟨S125x32x32x32, .f32⟩
  | 81 => ⟨S125x32x32x32, .f32⟩
  | 82 => ⟨S1x32x32x32, .f32⟩
  | 83 => ⟨S125x32x32x32, .f32⟩
  | 84 => ⟨S_, .f32⟩
  | 85 => ⟨S125x32x32x32, .f32⟩
  | 86 => ⟨S125x32x32x32, .f32⟩
  | 87 => ⟨S_, .f32⟩
  | 88 => ⟨S125x32x32x32, .f32⟩
  | 89 => ⟨S125x32x32x32, .f32⟩
  | 90 => ⟨S_, .f32⟩
  | 91 => ⟨S125x32x32x32, .f32⟩
  | 92 => ⟨S125x32x32x32, .f32⟩
  | 93 => ⟨S125x32x32x32, .f32⟩
  | 94 => ⟨S125x32x32x32, .f32⟩
  | 95 => ⟨S_, .i32⟩
  | 96 => ⟨S125x32x32x32, .i32⟩
  | 97 => ⟨S125x32x32x32, .i32⟩
  | 98 => ⟨S_, .i32⟩
  | 99 => ⟨S125x32x32x32, .i32⟩
  | 100 => ⟨S125x32x32x32, .i32⟩
  | 101 => ⟨S125x32x32x32, .i32⟩
  | 102 => ⟨S125x32x32x32, .i32⟩
  | 103 => ⟨S4096, .f32⟩
  | 104 => ⟨S_, .i32⟩
  | 105 => ⟨S125x32x32x32, .i32⟩
  | 106 => ⟨S125x32x32x32, .i1⟩
  | 107 => ⟨S_, .i32⟩
  | 108 => ⟨S125x32x32x32, .i32⟩
  | 109 => ⟨S125x32x32x32, .i32⟩
  | 110 => ⟨S125x32x32x32, .i32⟩
  | 111 => ⟨S125x32x32x32x1, .i32⟩
  | 112 => ⟨S125x32x32x32, .f32⟩
  | 113 => ⟨S_, .f32⟩
  | 114 => ⟨S125x32x32x32, .f32⟩
  | 115 => ⟨S125x32x32x32, .f32⟩
  | 116 => ⟨S4096, .f32⟩
  | 117 => ⟨S_, .i32⟩
  | 118 => ⟨S125x32x32x32, .i32⟩
  | 119 => ⟨S125x32x32x32, .i1⟩
  | 120 => ⟨S_, .i32⟩
  | 121 => ⟨S125x32x32x32, .i32⟩
  | 122 => ⟨S125x32x32x32, .i32⟩
  | 123 => ⟨S125x32x32x32, .i32⟩
  | 124 => ⟨S125x32x32x32x1, .i32⟩
  | 125 => ⟨S125x32x32x32, .f32⟩
  | 126 => ⟨S_, .f32⟩
  | 127 => ⟨S125x32x32x32, .f32⟩
  | _ => ⟨S1x32x16x16x16, .f32⟩

abbrev hbmTy0_2 (i : Nat) : BufTy := match i % 128 with
  | 0 => ⟨S125x32x32x32, .f32⟩
  | 1 => ⟨S4096, .f32⟩
  | 2 => ⟨S_, .i32⟩
  | 3 => ⟨S125x32x32x32, .i32⟩
  | 4 => ⟨S125x32x32x32, .i1⟩
  | 5 => ⟨S_, .i32⟩
  | 6 => ⟨S125x32x32x32, .i32⟩
  | 7 => ⟨S125x32x32x32, .i32⟩
  | 8 => ⟨S125x32x32x32, .i32⟩
  | 9 => ⟨S125x32x32x32x1, .i32⟩
  | 10 => ⟨S125x32x32x32, .f32⟩
  | 11 => ⟨S_, .f32⟩
  | 12 => ⟨S125x32x32x32, .f32⟩
  | 13 => ⟨S125x32x32x32, .f32⟩
  | 14 => ⟨S4096, .f32⟩
  | 15 => ⟨S_, .i32⟩
  | 16 => ⟨S125x32x32x32, .i32⟩
  | 17 => ⟨S125x32x32x32, .i1⟩
  | 18 => ⟨S_, .i32⟩
  | 19 => ⟨S125x32x32x32, .i32⟩
  | 20 => ⟨S125x32x32x32, .i32⟩
  | 21 => ⟨S125x32x32x32, .i32⟩
  | 22 => ⟨S125x32x32x32x1, .i32⟩
  | 23 => ⟨S125x32x32x32, .f32⟩
  | 24 => ⟨S_, .f32⟩
  | 25 => ⟨S125x32x32x32, .f32⟩
  | 26 => ⟨S125x32x32x32, .f32⟩
  | 27 => ⟨S125x32x32x32, .f32⟩
  | 28 => ⟨S125x32x32x32, .f32⟩
  | 29 => ⟨S125x32x32x32, .f32⟩
  | 30 => ⟨S_, .f32⟩
  | 31 => ⟨S125x32x32x32, .f32⟩
  | 32 => ⟨S125x32x32x32, .f32⟩
  | 33 => ⟨S125x32x32x32, .f32⟩
  | 34 => ⟨S125x32x32x32, .f32⟩
  | 35 => ⟨S125x32x32x32, .f32⟩
  | 36 => ⟨S_, .f32⟩
  | 37 => ⟨S125x32x32x32, .f32⟩
  | 38 => ⟨S125x32x32x32, .f32⟩
  | 39 => ⟨S125x32x32x32, .f32⟩
  | 40 => ⟨S125x32x32x32, .f32⟩
  | 41 => ⟨S125x32x32x32, .f32⟩
  | 42 => ⟨S125x32x32x32, .f32⟩
  | 43 => ⟨S_, .f32⟩
  | 44 => ⟨S125x32x32x32, .f32⟩
  | 45 => ⟨S125x32x32x32, .f32⟩
  | 46 => ⟨S125x32x32x32, .f32⟩
  | 47 => ⟨S125x32x32x32, .f32⟩
  | 48 => ⟨S3x32x32x32, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S_, .f32⟩
  | 57 => ⟨S16, .f32⟩
  | 58 => ⟨S16, .f32⟩
  | 59 => ⟨S16x1, .f32⟩
  | 60 => ⟨S32, .f32⟩
  | 61 => ⟨S1x32, .f32⟩
  | 62 => ⟨S16x32, .f32⟩
  | 63 => ⟨S16x32, .f32⟩
  | 64 => ⟨S16x32, .f32⟩
  | 65 => ⟨S16x32, .f32⟩
  | 66 => ⟨S_, .f32⟩
  | 67 => ⟨S16x32, .f32⟩
  | 68 => ⟨S16x32, .f32⟩
  | 69 => ⟨S_, .f32⟩
  | 70 => ⟨S16x32, .f32⟩
  | 71 => ⟨S16x32, .f32⟩
  | 72 => ⟨S_, .f32⟩
  | 73 => ⟨S16x32, .f32⟩
  | 74 => ⟨S16x32, .f32⟩
  | 75 => ⟨S_, .f32⟩
  | 76 => ⟨S16, .f32⟩
  | 77 => ⟨S16x1, .f32⟩
  | 78 => ⟨S16x32, .f32⟩
  | 79 => ⟨S16x32, .f32⟩
  | 80 => ⟨S16x3x32x32, .f32⟩
  | 81 => ⟨S3x16x32x32, .f32⟩
  | 82 => ⟨S16x3x16x32, .f32⟩
  | 83 => ⟨S3x16x16x32, .f32⟩
  | 84 => ⟨S3x16x16x16, .f32⟩
  | 85 => ⟨S_, .f32⟩
  | 86 => ⟨S125x32x32x32, .f32⟩
  | 87 => ⟨S1x1x32x32x32, .f32⟩
  | 88 => ⟨S32x32x32, .f32⟩
  | 89 => ⟨S1x32x32x32, .f32⟩
  | 90 => ⟨S1x16x16x16, .f32⟩
  | 91 => ⟨S16x16x16, .f32⟩
  | 92 => ⟨S4096, .f32⟩
  | 93 => ⟨S_, .i32⟩
  | 94 => ⟨S125x32x32x32, .i32⟩
  | 95 => ⟨S125x32x32x32, .i1⟩
  | 96 => ⟨S_, .i32⟩
  | 97 => ⟨S125x32x32x32, .i32⟩
  | 98 => ⟨S125x32x32x32, .i32⟩
  | 99 => ⟨S125x32x32x32, .i32⟩
  | 100 => ⟨S125x32x32x32x1, .i32⟩
  | 101 => ⟨S125x32x32x32, .f32⟩
  | 102 => ⟨S125x32x32x32, .f32⟩
  | 103 => ⟨S125x32x32x32, .f32⟩
  | 104 => ⟨S125x32x32x32, .f32⟩
  | 105 => ⟨S125x32x32x32, .f32⟩
  | 106 => ⟨S1x1x32x32x32, .f32⟩
  | 107 => ⟨S32x32x32, .f32⟩
  | 108 => ⟨S1x32x32x32, .f32⟩
  | 109 => ⟨S1x16x16x16, .f32⟩
  | 110 => ⟨S16x16x16, .f32⟩
  | 111 => ⟨S4096, .f32⟩
  | 112 => ⟨S_, .i32⟩
  | 113 => ⟨S125x32x32x32, .i32⟩
  | 114 => ⟨S125x32x32x32, .i1⟩
  | 115 => ⟨S_, .i32⟩
  | 116 => ⟨S125x32x32x32, .i32⟩
  | 117 => ⟨S125x32x32x32, .i32⟩
  | 118 => ⟨S125x32x32x32, .i32⟩
  | 119 => ⟨S125x32x32x32x1, .i32⟩
  | 120 => ⟨S125x32x32x32, .f32⟩
  | 121 => ⟨S125x32x32x32, .f32⟩
  | 122 => ⟨S125x32x32x32, .f32⟩
  | 123 => ⟨S125x32x32x32, .f32⟩
  | 124 => ⟨S125x32x32x32, .f32⟩
  | 125 => ⟨S1x1x32x32x32, .f32⟩
  | 126 => ⟨S32x32x32, .f32⟩
  | 127 => ⟨S1x32x32x32, .f32⟩
  | _ => ⟨S1x32x16x16x16, .f32⟩

abbrev hbmTy0_3 (i : Nat) : BufTy := match i % 128 with
  | 0 => ⟨S1x16x16x16, .f32⟩
  | 1 => ⟨S16x16x16, .f32⟩
  | 2 => ⟨S4096, .f32⟩
  | 3 => ⟨S_, .i32⟩
  | 4 => ⟨S125x32x32x32, .i32⟩
  | 5 => ⟨S125x32x32x32, .i1⟩
  | 6 => ⟨S_, .i32⟩
  | 7 => ⟨S125x32x32x32, .i32⟩
  | 8 => ⟨S125x32x32x32, .i32⟩
  | 9 => ⟨S125x32x32x32, .i32⟩
  | 10 => ⟨S125x32x32x32x1, .i32⟩
  | 11 => ⟨S125x32x32x32, .f32⟩
  | 12 => ⟨S125x32x32x32, .f32⟩
  | 13 => ⟨S125x32x32x32, .f32⟩
  | 14 => ⟨S125x32x32x32, .f32⟩
  | 15 => ⟨S125x32x32x32, .f32⟩
  | 16 => ⟨S125x32x32x32, .f32⟩
  | 17 => ⟨S125x32x32x32, .f32⟩
  | 18 => ⟨S_, .f32⟩
  | 19 => ⟨S125x32x32x32, .f32⟩
  | 20 => ⟨S125x32x32x32, .f32⟩
  | 21 => ⟨S_, .f32⟩
  | 22 => ⟨S125x32x32x32, .f32⟩
  | 23 => ⟨S125x32x32x32, .f32⟩
  | 24 => ⟨S125x32x32x32, .f32⟩
  | 25 => ⟨S125x32x32x32, .f32⟩
  | 26 => ⟨S_, .f32⟩
  | 27 => ⟨S_, .f32⟩
  | 28 => ⟨S125x32x32x32, .f32⟩
  | 29 => ⟨S125x32x32x32, .f32⟩
  | 30 => ⟨S_, .f32⟩
  | 31 => ⟨S32x32x32, .f32⟩
  | 32 => ⟨S1x32x32x32, .f32⟩
  | 33 => ⟨S125x32x32x32, .f32⟩
  | 34 => ⟨S125x32x32x32, .f32⟩
  | 35 => ⟨S125x32x32x32, .f32⟩
  | 36 => ⟨S_, .f32⟩
  | 37 => ⟨S32x32x32, .f32⟩
  | 38 => ⟨S32x16x16x16, .f32⟩
  | 39 => ⟨S16x16x16x32, .f32⟩
  | 40 => ⟨S4096x32, .f32⟩
  | 41 => ⟨S_, .i32⟩
  | 42 => ⟨S125x32x32x32, .i32⟩
  | 43 => ⟨S125x32x32x32, .i1⟩
  | 44 => ⟨S_, .i32⟩
  | 45 => ⟨S125x32x32x32, .i32⟩
  | 46 => ⟨S125x32x32x32, .i32⟩
  | 47 => ⟨S125x32x32x32, .i32⟩
  | 48 => ⟨S125x32x32x32x1, .i32⟩
  | 49 => ⟨S125x32x32x32x32, .f32⟩
  | 50 => ⟨S32x32x32x32, .f32⟩
  | 51 => ⟨S32x32x32x32, .f32⟩
  | 52 => ⟨S_, .f32⟩
  | 53 => ⟨S32x32x32, .f32⟩
  | 54 => ⟨S32x32x32, .f32⟩
  | 55 => ⟨S1x32x32x32, .f32⟩
  | 56 => ⟨S32x32x32x32, .f32⟩
  | 57 => ⟨S32x32x32x32, .f32⟩
  | 58 => ⟨S1x32x32x32x32, .f32⟩
  | _ => ⟨S1x32x16x16x16, .f32⟩

abbrev hbmTy (i : Nat) : BufTy := match i / 128 with
  | 0 => hbmTy0_0 i
  | 1 => hbmTy0_1 i
  | 2 => hbmTy0_2 i
  | 3 => hbmTy0_3 i
  | _ => ⟨S1x32x16x16x16, .f32⟩

abbrev bufTy : (tb : Table) → Fin (tcTables nBuf tb) → BufTy
  | .hbm, ⟨i, _⟩ => hbmTy i
  | _, _ => ⟨S1x32x16x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c : Ref sig .tc := ⟨.hbm, 44, rfl⟩
abbrev main_c_8 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_9 : Ref sig .tc := ⟨.hbm, 54, rfl⟩
abbrev main_c_10 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_11 : Ref sig .tc := ⟨.hbm, 64, rfl⟩
abbrev main_c_12 : Ref sig .tc := ⟨.hbm, 65, rfl⟩
abbrev main_call5_v0 : Ref sig .tc := ⟨.hbm, 66, rfl⟩
abbrev main_call5_v1 : Ref sig .tc := ⟨.hbm, 67, rfl⟩
abbrev main_call5_v2 : Ref sig .tc := ⟨.hbm, 68, rfl⟩
abbrev main_call5_v3 : Ref sig .tc := ⟨.hbm, 69, rfl⟩
abbrev main_call5_v4 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_13 : Ref sig .tc := ⟨.hbm, 77, rfl⟩
abbrev main_v41 : Ref sig .tc := ⟨.hbm, 78, rfl⟩
abbrev main_v42 : Ref sig .tc := ⟨.hbm, 79, rfl⟩
abbrev main_cst_14 : Ref sig .tc := ⟨.hbm, 80, rfl⟩
abbrev main_v43 : Ref sig .tc := ⟨.hbm, 81, rfl⟩
abbrev main_v44 : Ref sig .tc := ⟨.hbm, 82, rfl⟩
abbrev main_cst_15 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_16 : Ref sig .tc := ⟨.hbm, 93, rfl⟩
abbrev main_v54 : Ref sig .tc := ⟨.hbm, 94, rfl⟩
abbrev main_v55 : Ref sig .tc := ⟨.hbm, 95, rfl⟩
abbrev main_cst_17 : Ref sig .tc := ⟨.hbm, 96, rfl⟩
abbrev main_v56 : Ref sig .tc := ⟨.hbm, 97, rfl⟩
abbrev main_v57 : Ref sig .tc := ⟨.hbm, 98, rfl⟩
abbrev main_cst_18 : Ref sig .tc := ⟨.hbm, 99, rfl⟩
abbrev main_v58 : Ref sig .tc := ⟨.hbm, 100, rfl⟩
abbrev main_v59 : Ref sig .tc := ⟨.hbm, 101, rfl⟩
abbrev main_cst_19 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_20 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_21 : Ref sig .tc := ⟨.hbm, 115, rfl⟩
abbrev main_cst_22 : Ref sig .tc := ⟨.hbm, 116, rfl⟩
abbrev main_call6_v0 : Ref sig .tc := ⟨.hbm, 117, rfl⟩
abbrev main_call6_v1 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_v71 : Ref sig .tc := ⟨.hbm, 122, rfl⟩
abbrev main_v72 : Ref sig .tc := ⟨.hbm, 123, rfl⟩
abbrev main_c_23 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_c_24 : Ref sig .tc := ⟨.hbm, 138, rfl⟩
abbrev main_c_25 : Ref sig .tc := ⟨.hbm, 139, rfl⟩
abbrev main_call7_v0 : Ref sig .tc := ⟨.hbm, 140, rfl⟩
abbrev main_call7_v1 : Ref sig .tc := ⟨.hbm, 141, rfl⟩
abbrev main_call7_v2 : Ref sig .tc := ⟨.hbm, 142, rfl⟩
abbrev main_call7_v3 : Ref sig .tc := ⟨.hbm, 143, rfl⟩
abbrev main_call7_v4 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_c_26 : Ref sig .tc := ⟨.hbm, 151, rfl⟩
abbrev main_c_27 : Ref sig .tc := ⟨.hbm, 152, rfl⟩
abbrev main_call8_v0 : Ref sig .tc := ⟨.hbm, 153, rfl⟩
abbrev main_call8_v1 : Ref sig .tc := ⟨.hbm, 154, rfl⟩
abbrev main_call8_v2 : Ref sig .tc := ⟨.hbm, 155, rfl⟩
abbrev main_call8_v3 : Ref sig .tc := ⟨.hbm, 156, rfl⟩
abbrev main_call8_v4 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_c_28 : Ref sig .tc := ⟨.hbm, 164, rfl⟩
abbrev main_c_29 : Ref sig .tc := ⟨.hbm, 165, rfl⟩
abbrev main_call9_v0 : Ref sig .tc := ⟨.hbm, 166, rfl⟩
abbrev main_call9_v1 : Ref sig .tc := ⟨.hbm, 167, rfl⟩
abbrev main_call9_v2 : Ref sig .tc := ⟨.hbm, 168, rfl⟩
abbrev main_call9_v3 : Ref sig .tc := ⟨.hbm, 169, rfl⟩
abbrev main_call9_v4 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_cst_30 : Ref sig .tc := ⟨.hbm, 186, rfl⟩
abbrev main_v113 : Ref sig .tc := ⟨.hbm, 187, rfl⟩
abbrev main_v114 : Ref sig .tc := ⟨.hbm, 188, rfl⟩
abbrev main_cst_31 : Ref sig .tc := ⟨.hbm, 189, rfl⟩
abbrev main_v115 : Ref sig .tc := ⟨.hbm, 190, rfl⟩
abbrev main_v116 : Ref sig .tc := ⟨.hbm, 191, rfl⟩
abbrev main_cst_32 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_cst_33 : Ref sig .tc := ⟨.hbm, 199, rfl⟩
abbrev main_v123 : Ref sig .tc := ⟨.hbm, 200, rfl⟩
abbrev main_v124 : Ref sig .tc := ⟨.hbm, 201, rfl⟩
abbrev main_cst_34 : Ref sig .tc := ⟨.hbm, 202, rfl⟩
abbrev main_v125 : Ref sig .tc := ⟨.hbm, 203, rfl⟩
abbrev main_v126 : Ref sig .tc := ⟨.hbm, 204, rfl⟩
abbrev main_cst_35 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_cst_36 : Ref sig .tc := ⟨.hbm, 212, rfl⟩
abbrev main_v133 : Ref sig .tc := ⟨.hbm, 213, rfl⟩
abbrev main_v134 : Ref sig .tc := ⟨.hbm, 214, rfl⟩
abbrev main_cst_37 : Ref sig .tc := ⟨.hbm, 215, rfl⟩
abbrev main_v135 : Ref sig .tc := ⟨.hbm, 216, rfl⟩
abbrev main_v136 : Ref sig .tc := ⟨.hbm, 217, rfl⟩
abbrev main_cst_38 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_c_39 : Ref sig .tc := ⟨.hbm, 223, rfl⟩
abbrev main_v141 : Ref sig .tc := ⟨.hbm, 224, rfl⟩
abbrev main_v142 : Ref sig .tc := ⟨.hbm, 225, rfl⟩
abbrev main_c_40 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_c_41 : Ref sig .tc := ⟨.hbm, 232, rfl⟩
abbrev main_v148 : Ref sig .tc := ⟨.hbm, 233, rfl⟩
abbrev main_v149 : Ref sig .tc := ⟨.hbm, 234, rfl⟩
abbrev main_c_42 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_43 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_c_44 : Ref sig .tc := ⟨.hbm, 245, rfl⟩
abbrev main_v158 : Ref sig .tc := ⟨.hbm, 246, rfl⟩
abbrev main_v159 : Ref sig .tc := ⟨.hbm, 247, rfl⟩
abbrev main_c_45 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_cst_46 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_c_47 : Ref sig .tc := ⟨.hbm, 258, rfl⟩
abbrev main_v168 : Ref sig .tc := ⟨.hbm, 259, rfl⟩
abbrev main_v169 : Ref sig .tc := ⟨.hbm, 260, rfl⟩
abbrev main_c_48 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_cst_49 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_c_50 : Ref sig .tc := ⟨.hbm, 271, rfl⟩
abbrev main_v178 : Ref sig .tc := ⟨.hbm, 272, rfl⟩
abbrev main_v179 : Ref sig .tc := ⟨.hbm, 273, rfl⟩
abbrev main_c_51 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_cst_52 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_v189 : Ref sig .tc := ⟨.hbm, 285, rfl⟩
abbrev main_cst_53 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_v194 : Ref sig .tc := ⟨.hbm, 291, rfl⟩
abbrev main_cst_54 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_cst_55 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩
abbrev main_v204 : Ref sig .tc := ⟨.hbm, 303, rfl⟩
abbrev main_v205 : Ref sig .tc := ⟨.hbm, 304, rfl⟩
abbrev main_v206 : Ref sig .tc := ⟨.hbm, 305, rfl⟩
abbrev main_cst_56 : Ref sig .tc := ⟨.hbm, 306, rfl⟩
abbrev main_v207 : Ref sig .tc := ⟨.hbm, 307, rfl⟩
abbrev main_v208 : Ref sig .tc := ⟨.hbm, 308, rfl⟩
abbrev main_cst_57 : Ref sig .tc := ⟨.hbm, 309, rfl⟩
abbrev main_v209 : Ref sig .tc := ⟨.hbm, 310, rfl⟩
abbrev main_v210 : Ref sig .tc := ⟨.hbm, 311, rfl⟩
abbrev main_cst_58 : Ref sig .tc := ⟨.hbm, 312, rfl⟩
abbrev main_v211 : Ref sig .tc := ⟨.hbm, 313, rfl⟩
abbrev main_v212 : Ref sig .tc := ⟨.hbm, 314, rfl⟩
abbrev main_v213 : Ref sig .tc := ⟨.hbm, 315, rfl⟩
abbrev main_v214 : Ref sig .tc := ⟨.hbm, 316, rfl⟩
abbrev main_v215 : Ref sig .tc := ⟨.hbm, 317, rfl⟩
abbrev main_v216 : Ref sig .tc := ⟨.hbm, 318, rfl⟩
abbrev main_v217 : Ref sig .tc := ⟨.hbm, 319, rfl⟩
abbrev main_v218 : Ref sig .tc := ⟨.hbm, 320, rfl⟩
abbrev main_v219 : Ref sig .tc := ⟨.hbm, 321, rfl⟩
abbrev main_cst_59 : Ref sig .tc := ⟨.hbm, 322, rfl⟩
abbrev main_v220 : Ref sig .tc := ⟨.hbm, 323, rfl⟩
abbrev main_v221 : Ref sig .tc := ⟨.hbm, 324, rfl⟩
abbrev main_cst_60 : Ref sig .tc := ⟨.hbm, 325, rfl⟩
abbrev main_v222 : Ref sig .tc := ⟨.hbm, 326, rfl⟩
abbrev main_v223 : Ref sig .tc := ⟨.hbm, 327, rfl⟩
abbrev main_cst_61 : Ref sig .tc := ⟨.hbm, 328, rfl⟩
abbrev main_v224 : Ref sig .tc := ⟨.hbm, 329, rfl⟩
abbrev main_v225 : Ref sig .tc := ⟨.hbm, 330, rfl⟩
abbrev main_cst_62 : Ref sig .tc := ⟨.hbm, 331, rfl⟩
abbrev main_v226 : Ref sig .tc := ⟨.hbm, 332, rfl⟩
abbrev main_v227 : Ref sig .tc := ⟨.hbm, 333, rfl⟩
abbrev main_v228 : Ref sig .tc := ⟨.hbm, 334, rfl⟩
abbrev main_v229 : Ref sig .tc := ⟨.hbm, 335, rfl⟩
abbrev main_v230 : Ref sig .tc := ⟨.hbm, 336, rfl⟩
abbrev main_v231 : Ref sig .tc := ⟨.hbm, 337, rfl⟩
abbrev main_v232 : Ref sig .tc := ⟨.hbm, 338, rfl⟩
abbrev main_v233 : Ref sig .tc := ⟨.hbm, 339, rfl⟩
abbrev main_v234 : Ref sig .tc := ⟨.hbm, 340, rfl⟩
abbrev main_cst_63 : Ref sig .tc := ⟨.hbm, 341, rfl⟩
abbrev main_v235 : Ref sig .tc := ⟨.hbm, 342, rfl⟩
abbrev main_v236 : Ref sig .tc := ⟨.hbm, 343, rfl⟩
abbrev main_v237 : Ref sig .tc := ⟨.hbm, 344, rfl⟩
abbrev main_v238 : Ref sig .tc := ⟨.hbm, 345, rfl⟩
abbrev main_v239 : Ref sig .tc := ⟨.hbm, 346, rfl⟩
abbrev main_v240 : Ref sig .tc := ⟨.hbm, 347, rfl⟩
abbrev main_v241 : Ref sig .tc := ⟨.hbm, 348, rfl⟩
abbrev main_c_64 : Ref sig .tc := ⟨.hbm, 349, rfl⟩
abbrev main_v242 : Ref sig .tc := ⟨.hbm, 350, rfl⟩
abbrev main_v243 : Ref sig .tc := ⟨.hbm, 351, rfl⟩
abbrev main_c_65 : Ref sig .tc := ⟨.hbm, 352, rfl⟩
abbrev main_v244 : Ref sig .tc := ⟨.hbm, 353, rfl⟩
abbrev main_v245 : Ref sig .tc := ⟨.hbm, 354, rfl⟩
abbrev main_v246 : Ref sig .tc := ⟨.hbm, 355, rfl⟩
abbrev main_v247 : Ref sig .tc := ⟨.hbm, 356, rfl⟩
abbrev main_v248 : Ref sig .tc := ⟨.hbm, 357, rfl⟩
abbrev main_v249 : Ref sig .tc := ⟨.hbm, 358, rfl⟩
abbrev main_v250 : Ref sig .tc := ⟨.hbm, 359, rfl⟩
abbrev main_v251 : Ref sig .tc := ⟨.hbm, 360, rfl⟩
abbrev main_v252 : Ref sig .tc := ⟨.hbm, 361, rfl⟩
abbrev main_v253 : Ref sig .tc := ⟨.hbm, 362, rfl⟩
abbrev main_v254 : Ref sig .tc := ⟨.hbm, 363, rfl⟩
abbrev main_v255 : Ref sig .tc := ⟨.hbm, 364, rfl⟩
abbrev main_v256 : Ref sig .tc := ⟨.hbm, 365, rfl⟩
abbrev main_v257 : Ref sig .tc := ⟨.hbm, 366, rfl⟩
abbrev main_v258 : Ref sig .tc := ⟨.hbm, 367, rfl⟩
abbrev main_c_66 : Ref sig .tc := ⟨.hbm, 368, rfl⟩
abbrev main_v259 : Ref sig .tc := ⟨.hbm, 369, rfl⟩
abbrev main_v260 : Ref sig .tc := ⟨.hbm, 370, rfl⟩
abbrev main_c_67 : Ref sig .tc := ⟨.hbm, 371, rfl⟩
abbrev main_v261 : Ref sig .tc := ⟨.hbm, 372, rfl⟩
abbrev main_v262 : Ref sig .tc := ⟨.hbm, 373, rfl⟩
abbrev main_v263 : Ref sig .tc := ⟨.hbm, 374, rfl⟩
abbrev main_v264 : Ref sig .tc := ⟨.hbm, 375, rfl⟩
abbrev main_v265 : Ref sig .tc := ⟨.hbm, 376, rfl⟩
abbrev main_v266 : Ref sig .tc := ⟨.hbm, 377, rfl⟩
abbrev main_v267 : Ref sig .tc := ⟨.hbm, 378, rfl⟩
abbrev main_v268 : Ref sig .tc := ⟨.hbm, 379, rfl⟩
abbrev main_v269 : Ref sig .tc := ⟨.hbm, 380, rfl⟩
abbrev main_v270 : Ref sig .tc := ⟨.hbm, 381, rfl⟩
abbrev main_v271 : Ref sig .tc := ⟨.hbm, 382, rfl⟩
abbrev main_v272 : Ref sig .tc := ⟨.hbm, 383, rfl⟩
abbrev main_v273 : Ref sig .tc := ⟨.hbm, 384, rfl⟩
abbrev main_v274 : Ref sig .tc := ⟨.hbm, 385, rfl⟩
abbrev main_v275 : Ref sig .tc := ⟨.hbm, 386, rfl⟩
abbrev main_c_68 : Ref sig .tc := ⟨.hbm, 387, rfl⟩
abbrev main_v276 : Ref sig .tc := ⟨.hbm, 388, rfl⟩
abbrev main_v277 : Ref sig .tc := ⟨.hbm, 389, rfl⟩
abbrev main_c_69 : Ref sig .tc := ⟨.hbm, 390, rfl⟩
abbrev main_v278 : Ref sig .tc := ⟨.hbm, 391, rfl⟩
abbrev main_v279 : Ref sig .tc := ⟨.hbm, 392, rfl⟩
abbrev main_v280 : Ref sig .tc := ⟨.hbm, 393, rfl⟩
abbrev main_v281 : Ref sig .tc := ⟨.hbm, 394, rfl⟩
abbrev main_v282 : Ref sig .tc := ⟨.hbm, 395, rfl⟩
abbrev main_v283 : Ref sig .tc := ⟨.hbm, 396, rfl⟩
abbrev main_v284 : Ref sig .tc := ⟨.hbm, 397, rfl⟩
abbrev main_v285 : Ref sig .tc := ⟨.hbm, 398, rfl⟩
abbrev main_v286 : Ref sig .tc := ⟨.hbm, 399, rfl⟩
abbrev main_v287 : Ref sig .tc := ⟨.hbm, 400, rfl⟩
abbrev main_v288 : Ref sig .tc := ⟨.hbm, 401, rfl⟩
abbrev main_cst_70 : Ref sig .tc := ⟨.hbm, 402, rfl⟩
abbrev main_v289 : Ref sig .tc := ⟨.hbm, 403, rfl⟩
abbrev main_v290 : Ref sig .tc := ⟨.hbm, 404, rfl⟩
abbrev main_cst_71 : Ref sig .tc := ⟨.hbm, 405, rfl⟩
abbrev main_v291 : Ref sig .tc := ⟨.hbm, 406, rfl⟩
abbrev main_v292 : Ref sig .tc := ⟨.hbm, 407, rfl⟩
abbrev main_v293 : Ref sig .tc := ⟨.hbm, 408, rfl⟩
abbrev main_v294 : Ref sig .tc := ⟨.hbm, 409, rfl⟩
abbrev main_cst_72 : Ref sig .tc := ⟨.hbm, 410, rfl⟩
abbrev main_call10_v0 : Ref sig .tc := ⟨.hbm, 411, rfl⟩
abbrev main_call10_v1 : Ref sig .tc := ⟨.hbm, 412, rfl⟩
abbrev main_v295 : Ref sig .tc := ⟨.hbm, 413, rfl⟩
abbrev main_cst_73 : Ref sig .tc := ⟨.hbm, 414, rfl⟩
abbrev main_v296 : Ref sig .tc := ⟨.hbm, 415, rfl⟩
abbrev main_v297 : Ref sig .tc := ⟨.hbm, 416, rfl⟩
abbrev main_v298 : Ref sig .tc := ⟨.hbm, 417, rfl⟩
abbrev main_v299 : Ref sig .tc := ⟨.hbm, 418, rfl⟩
abbrev main_v300 : Ref sig .tc := ⟨.hbm, 419, rfl⟩
abbrev main_cst_74 : Ref sig .tc := ⟨.hbm, 420, rfl⟩
abbrev main_v301 : Ref sig .tc := ⟨.hbm, 421, rfl⟩
abbrev main_v302 : Ref sig .tc := ⟨.hbm, 422, rfl⟩
abbrev main_v303 : Ref sig .tc := ⟨.hbm, 423, rfl⟩
abbrev main_v304 : Ref sig .tc := ⟨.hbm, 424, rfl⟩
abbrev main_c_75 : Ref sig .tc := ⟨.hbm, 425, rfl⟩
abbrev main_v305 : Ref sig .tc := ⟨.hbm, 426, rfl⟩
abbrev main_v306 : Ref sig .tc := ⟨.hbm, 427, rfl⟩
abbrev main_c_76 : Ref sig .tc := ⟨.hbm, 428, rfl⟩
abbrev main_v307 : Ref sig .tc := ⟨.hbm, 429, rfl⟩
abbrev main_v308 : Ref sig .tc := ⟨.hbm, 430, rfl⟩
abbrev main_v309 : Ref sig .tc := ⟨.hbm, 431, rfl⟩
abbrev main_v310 : Ref sig .tc := ⟨.hbm, 432, rfl⟩
abbrev main_v311 : Ref sig .tc := ⟨.hbm, 433, rfl⟩
abbrev main_v312 : Ref sig .tc := ⟨.hbm, 434, rfl⟩
abbrev main_v313 : Ref sig .tc := ⟨.hbm, 435, rfl⟩
abbrev main_cst_77 : Ref sig .tc := ⟨.hbm, 436, rfl⟩
abbrev main_v314 : Ref sig .tc := ⟨.hbm, 437, rfl⟩
abbrev main_v315 : Ref sig .tc := ⟨.hbm, 438, rfl⟩
abbrev main_v316 : Ref sig .tc := ⟨.hbm, 439, rfl⟩
abbrev main_v317 : Ref sig .tc := ⟨.hbm, 440, rfl⟩
abbrev main_v318 : Ref sig .tc := ⟨.hbm, 441, rfl⟩
abbrev main_v319 : Ref sig .tc := ⟨.hbm, 442, rfl⟩

abbrev nD : Nat := 1
abbrev τ : Topo := Topo.v7x

variable {F : FTy → Type} [FloatOps F]
-- ==== Proof.Claims.lean ====
/- The claims that need no value: each program runs to the end and leaves its arguments alone, and the idealized kernel
   differs from the kernel in its two named constants only. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof

theorem frame_kernel : Cert.quiescent_Kernel := fun m ρ _ => Cert.Kernel.Gen.frame m ρ

theorem frame_kernelIdeal : Cert.quiescent_KernelIdeal := fun m ρ _ => Cert.KernelIdeal.Gen.frame m ρ

theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "renorm" .f32 0x3F924925#32 ((8 / 7 : ℝ) : EReal) rfl,
    IdealRules.named_const.statement Cert.KernelIdeal.κ "mask" .f32 0xCE6E6B28#32 ⊥ rfl⟩

end Cert.Proof

end
-- ==== Proof.KForm.lean ====
/- The kernel body's arrays written as a few vector functions: the log weight of one offset, its exponential, one block of
   eight results. Each is shown equal to what the run of the body leaves. -/
module

public import proofs.«01_k».proof.Proof.Gen.KernelIdeal.Frame.RunA

@[expose] public section

set_option maxRecDepth 16384

noncomputable section

namespace Cert.Proof

open Idealize.ShloMosaic Cert.KernelIdeal Cert.KernelIdeal.Gen

variable {F : FTy → Type} [FloatOps F] [Named F]

/-- The 33 offsets in the kernel's numbering, each coordinate moved up by 2. -/
def offX : Fin 33 → Fin 5 := ![0, 1,1,1,1,1,1,1,1,1, 2,2,2,2,2,2,2,2,2,2,2,2,2, 3,3,3,3,3,3,3,3,3, 4]
/-- The second coordinate. -/
def offY : Fin 33 → Fin 5 := ![2, 1,1,1,2,2,2,3,3,3, 0,1,1,1,2,2,2,2,2,3,3,3,4, 1,1,1,2,2,2,3,3,3, 2]
/-- The third coordinate. -/
def offZ : Fin 33 → Fin 5 := ![2, 1,2,3,1,2,3,1,2,3, 2,1,2,3,0,1,2,3,4,1,2,3,2, 1,2,3,1,2,3,1,2,3, 2]

/-- Whether an offset's weight depends on the radius (its squared length exceeds 1). -/
def gated : Fin 33 → Bool :=
  ![true, true,true,true,true,false,true,true,true,true, true,true,false,true,true,false,false,false,true,true,false,true,true,
    true,true,true,true,false,true,true,true,true, true]

/-- The order in which the kernel visits the offsets. -/
def visit : List (Fin 33) :=
  [10, 1, 11, 23, 2, 12, 24, 3, 13, 25, 14, 4, 15, 26, 0, 5, 16, 27, 32, 6, 17, 28, 18, 7, 19, 29, 8, 20, 30, 9, 21, 31, 22]

/-- The clamped shift along the second axis: whole groups of 64 lanes. -/
def ysh (d : Fin 5) (v : Vec F S20x1024 .f32) : Vec F S20x1024 .f32 :=
  match d with
  | 0 => concatenate S20x1024 1 [⟨S20x64, extractStridedSlice S20x64 ![0, 0] v slices_S20x1024_o0_0_S20x64⟩, ⟨S20x64, extractStridedSlice S20x64 ![0, 0] v slices_S20x1024_o0_0_S20x64⟩, ⟨S20x896, extractStridedSlice S20x896 ![0, 0] v slices_S20x1024_o0_0_S20x896⟩] concatenates_S20x64_S20x64_S20x896_S20x1024_d1
  | 1 => concatenate S20x1024 1 [⟨S20x64, extractStridedSlice S20x64 ![0, 0] v slices_S20x1024_o0_0_S20x64⟩, ⟨S20x960, extractStridedSlice S20x960 ![0, 0] v slices_S20x1024_o0_0_S20x960⟩] concatenates_S20x64_S20x960_S20x1024_d1
  | 2 => v
  | 3 => concatenate S20x1024 1 [⟨S20x960, extractStridedSlice S20x960 ![0, 64] v slices_S20x1024_o0_64_S20x960⟩, ⟨S20x64, extractStridedSlice S20x64 ![0, 960] v slices_S20x1024_o0_960_S20x64⟩] concatenates_S20x960_S20x64_S20x1024_d1
  | 4 => concatenate S20x1024 1 [⟨S20x896, extractStridedSlice S20x896 ![0, 128] v slices_S20x1024_o0_128_S20x896⟩, ⟨S20x64, extractStridedSlice S20x64 ![0, 960] v slices_S20x1024_o0_960_S20x64⟩, ⟨S20x64, extractStridedSlice S20x64 ![0, 960] v slices_S20x1024_o0_960_S20x64⟩] concatenates_S20x896_S20x64_S20x64_S20x1024_d1

/-- The rectangle of map `q` at shift `a` in the first scratch. -/
def rectS (a : Fin 5) (q : Fin 7) : Rect S5x7x20x1024 :=
  Rect.unit ![a.val, q.val, 0, 0] S1x1x20x1024.size (by
    intro i; fin_cases i
    · show a.val + 1 ≤ 5; omega
    · show q.val + 1 ≤ 7; omega
    · show 0 + 20 ≤ 20; omega
    · show 0 + 1024 ≤ 1024; omega)

/-- The rectangle of offset `n` in the third scratch. -/
def rectW (n : Fin 33) : Rect S33x2x16x1024 :=
  Rect.unit ![n.val, 0, 0, 0] S1x2x16x1024.size (by
    intro i; fin_cases i
    · show n.val + 1 ≤ 33; omega
    · show 0 + 2 ≤ 2; omega
    · show 0 + 16 ≤ 16; omega
    · show 0 + 1024 ≤ 1024; omega)

/-- The sixteen rows of a padded map that the first coordinate's shift selects. -/
def rows (d : Fin 5) (v : Vec F S20x1024 .f32) : Vec F S16x1024 .f32 :=
  match d with
  | 0 => extractStridedSlice S16x1024 ![0, 0] v slices_S20x1024_o0_0_S16x1024
  | 1 => extractStridedSlice S16x1024 ![1, 0] v slices_S20x1024_o1_0_S16x1024
  | 2 => extractStridedSlice S16x1024 ![2, 0] v slices_S20x1024_o2_0_S16x1024
  | 3 => extractStridedSlice S16x1024 ![3, 0] v slices_S20x1024_o3_0_S16x1024
  | 4 => extractStridedSlice S16x1024 ![4, 0] v slices_S20x1024_o4_0_S16x1024

/-- A map repeated for both parities of the first coordinate. -/
def both (v : Vec F S16x1024 .f32) : Vec F S2x16x1024 .f32 :=
  broadcastTo S2x16x1024 (shapeCast S1x16x1024 v shapeCasts_S16x1024_S1x16x1024) broadcasts_S1x16x1024_S2x16x1024

section
variable (c : Dev nD) (arg1 : Memref sig .tc .vmem S2x3x16x1024 .f32) (harg1 : arg1.IsWhole) (arg2 : Memref sig .tc .vmem S4x16x1024 .f32) (harg2 : arg2.IsWhole) (arg3 : Memref sig .tc .vmem S33x2x16 .f32) (harg3 : arg3.IsWhole) (arg4 : Memref sig .tc .vmem S33x1024 .f32) (harg4 : arg4.IsWhole) (arg5 : Memref sig .tc .vmem S33x1024 .f32) (harg5 : arg5.IsWhole) (arg7 : Memref sig .tc .vmem S5x7x20x1024 .f32) (arg9 : Memref sig .tc .vmem S33x2x16x1024 .f32) (arg10 : Memref sig .tc .vmem S2x16x1024 .f32)
    (x1 : Vec F S2x3x16x1024 .f32) (x2 : Vec F S4x16x1024 .f32) (x3 : Vec F S33x2x16 .f32) (x4 : Vec F S33x1024 .f32) (x5 : Vec F S33x1024 .f32)

/-- Map `q` as offset `n` reads it: the slab stored at the third coordinate's shift, moved along the second, its rows taken. -/
def mapAt (n : Fin 33) (q : Fin 7) : Vec F S16x1024 .f32 :=
  rows (offX n) (ysh (offY n) (shapeCast S20x1024 (arg7.view.readCov (kernelRun0_A.sl.HS0_35 c arg1 harg1 arg2 harg2 x1 x2) (rectS (offZ n) q).toLoadRect) shapeCasts_S1x1x20x1024_S20x1024))

/-- One guide channel at full resolution. -/
def guideAt (g : Fin 3) : Vec F S2x16x1024 .f32 :=
  match g with
  | 0 => shapeCast S2x16x1024 (View.readAt (Elt F) arg1.view (Rect.unit (s := S2x3x16x1024) ![0, 0, 0, 0] S2x1x16x1024.size inb_S2x3x16x1024_S2x1x16x1024_0_0_0_0).toLoadRect (harg1.unread x1)) shapeCasts_S2x1x16x1024_S2x16x1024
  | 1 => shapeCast S2x16x1024 (View.readAt (Elt F) arg1.view (Rect.unit (s := S2x3x16x1024) ![0, 1, 0, 0] S2x1x16x1024.size inb_S2x3x16x1024_S2x1x16x1024_0_1_0_0).toLoadRect (harg1.unread x1)) shapeCasts_S2x1x16x1024_S2x16x1024
  | 2 => shapeCast S2x16x1024 (View.readAt (Elt F) arg1.view (Rect.unit (s := S2x3x16x1024) ![0, 2, 0, 0] S2x1x16x1024.size inb_S2x3x16x1024_S2x1x16x1024_0_2_0_0).toLoadRect (harg1.unread x1)) shapeCasts_S2x1x16x1024_S2x16x1024

/-- The squared distances of offset `n` along the first coordinate. -/
def distX (n : Fin 33) : Vec F S1x2x16 .f32 :=
  View.readAt (Elt F) arg3.view (Rect.unit (s := S33x2x16) ![n.val, 0, 0] S1x2x16.size (by
    intro i; fin_cases i
    · show n.val + 1 ≤ 33; omega
    · show 0 + 2 ≤ 2; omega
    · show 0 + 16 ≤ 16; omega)).toLoadRect (harg3.unread x3)

/-- Along another coordinate. -/
def distF (arg : Memref sig .tc .vmem S33x1024 .f32) (harg : arg.IsWhole) (x : Vec F S33x1024 .f32) (n : Fin 33) : Vec F S1x1024 .f32 :=
  View.readAt (Elt F) arg.view (Rect.unit (s := S33x1024) ![n.val, 0] S1x1024.size (by
    intro i; fin_cases i
    · show n.val + 1 ≤ 33; omega
    · show 0 + 1024 ≤ 1024; omega)).toLoadRect (harg.unread x)

/-- A squared distance along the lanes times a map. -/
def laneTerm (t : Vec F S1x1024 .f32) (v : Vec F S16x1024 .f32) : Vec F S2x16x1024 .f32 :=
  broadcastTo S2x16x1024 (mulf (broadcastTo S1x16x1024 (shapeCast S1x1x1024 (shapeCast S1024 t shapeCasts_S1x1024_S1024) shapeCasts_S1024_S1x1x1024) broadcasts_S1x1x1024_S1x16x1024) (shapeCast S1x16x1024 v shapeCasts_S16x1024_S1x16x1024)) broadcasts_S1x16x1024_S2x16x1024

/-- The squared difference of one guide channel. -/
def sqDiff (g : Vec F S2x16x1024 .f32) (v : Vec F S16x1024 .f32) : Vec F S2x16x1024 .f32 :=
  mulf (subf g (both v)) (subf g (both v))

/-- The log weight of offset `n` before the radius is looked at. -/
def logW (n : Fin 33) : Vec F S2x16x1024 .f32 :=
  subf (subf (broadcast S2x16x1024 (FloatOps.ofBits FTy.f32 0#32))
      (addf (addf
        (mulf (broadcastTo S2x16x1024 (shapeCast S2x16x1 (shapeCast S2x16 (distX arg3 harg3 x3 n) shapeCasts_S1x2x16_S2x16) shapeCasts_S2x16_S2x16x1) broadcasts_S2x16x1_S2x16x1024)
          (both (mapAt c arg1 harg1 arg2 harg2 arg7 x1 x2 n 0)))
        (laneTerm (distF arg4 harg4 x4 n) (mapAt c arg1 harg1 arg2 harg2 arg7 x1 x2 n 1)))
        (laneTerm (distF arg5 harg5 x5 n) (mapAt c arg1 harg1 arg2 harg2 arg7 x1 x2 n 2))))
    (mulf (addf (addf (sqDiff (guideAt arg1 harg1 x1 0) (mapAt c arg1 harg1 arg2 harg2 arg7 x1 x2 n 4))
        (sqDiff (guideAt arg1 harg1 x1 1) (mapAt c arg1 harg1 arg2 harg2 arg7 x1 x2 n 5)))
        (sqDiff (guideAt arg1 harg1 x1 2) (mapAt c arg1 harg1 arg2 harg2 arg7 x1 x2 n 6)))
      (both (mapAt c arg1 harg1 arg2 harg2 arg7 x1 x2 n 3)))

/-- The upsampled radius map the kernel keeps in its last scratch. -/
def thrAt : Vec F S2x16x1024 .f32 :=
  arg10.view.readCov (kernelRun0_A.sl.HS3_2 c arg2 harg2 x2) (Rect.unit (s := S2x16x1024) ![0, 0, 0] S2x16x1024.size inb_S2x16x1024_S2x16x1024_0_0_0).toLoadRect

/-- The log weight of offset `n`, masked where the radius excludes it. -/
def maskW (n : Fin 33) : Vec F S2x16x1024 .f32 :=
  match gated n with
  | false => logW c arg1 harg1 arg2 harg2 arg3 harg3 arg4 harg4 arg5 harg5 arg7 x1 x2 x3 x4 x5 n
  | true => select (cmpf .ogt (thrAt c arg2 harg2 arg10 x2) (broadcast S2x16x1024 (FloatOps.ofBits FTy.f32 0x3F000000#32)))
      (logW c arg1 harg1 arg2 harg2 arg3 harg3 arg4 harg4 arg5 harg5 arg7 x1 x2 x3 x4 x5 n) (broadcast S2x16x1024 (Named.named κ "mask" 0xCE6E6B28#32))

/-- The pieces of the third scratch holding the log weights of the offsets in a list, last stored first. -/
def logPieces (l : List (Fin 33)) : List (View.Piece (Elt F) S33x2x16x1024 .f32) :=
  l.map fun n => ⟨rectW n, shapeCast S1x2x16x1024 (maskW c arg1 harg1 arg2 harg2 arg3 harg3 arg4 harg4 arg5 harg5 arg7 arg10 x1 x2 x3 x4 x5 n) shapeCasts_S2x16x1024_S1x2x16x1024⟩

theorem log_pieces : kernelRun0_A.sl.HS2_33 c arg1 harg1 arg2 harg2 arg3 harg3 arg4 harg4 arg5 harg5 arg7 arg10 x1 x2 x3 x4 x5
    = logPieces c arg1 harg1 arg2 harg2 arg3 harg3 arg4 harg4 arg5 harg5 arg7 arg10 x1 x2 x3 x4 x5 visit.reverse := by
  rfl
end

end Cert.Proof
end
-- ==== Proof.KVec.lean ====
/- The kernel body's maps as functions of plain arrays: the shifts with clamping, the reciprocals made from the four raw maps,
   the radius map brought to full resolution and the guide brought to low resolution. -/
module

public import proofs.«01_k».proof.Proof.KForm

@[expose] public section

set_option maxRecDepth 16384

noncomputable section

namespace Cert.Proof

open Idealize.ShloMosaic Cert.KernelIdeal Cert.KernelIdeal.Gen

variable {F : FTy → Type} [FloatOps F] [Named F]

/-- The lane number `64*ky + 32*py + 2*kz + pz`. -/
def laneV : IVec S16x1024 32 := iota Kind.tc S16x1024 32 [1] iota_S16x1024_d1_w32
def kyV : IVec S16x1024 32 := shrsi laneV (broadcast S16x1024 6#32)
def pyV : IVec S16x1024 32 := andi (shrsi laneV (broadcast S16x1024 5#32)) (broadcast S16x1024 1#32)
def kzV : IVec S16x1024 32 := andi (shrsi laneV (broadcast S16x1024 1#32)) (broadcast S16x1024 15#32)
def pzV : IVec S16x1024 32 := andi laneV (broadcast S16x1024 1#32)
def zzV : IVec S16x1024 32 := andi laneV (broadcast S16x1024 31#32)
def rowV : IVec S16x1024 32 := iota Kind.tc S16x1024 32 [0] iota_S16x1024_d0_w32

/-- A float constant over the map shape. -/
def kst (b : BitVec 32) : Vec F S16x1024 .f32 := broadcast S16x1024 (FloatOps.ofBits FTy.f32 b)

/-- The clamped shift by `d - 2` along the third coordinate: pairs of lanes, the lanes of the last pairs kept. -/
def zsh (d : Fin 5) (v : Vec F S16x1024 .f32) : Vec F S16x1024 .f32 :=
  match d with
  | 0 => select (cmpi .eq kzV (broadcast S16x1024 0#32)) v (select (cmpi .eq kzV (broadcast S16x1024 1#32))
      (concatenate S16x1024 1 [⟨S16x2, extractStridedSlice S16x2 ![0, 0] v slices_S16x1024_o0_0_S16x2⟩, ⟨S16x1022, extractStridedSlice S16x1022 ![0, 0] v slices_S16x1024_o0_0_S16x1022⟩] concatenates_S16x2_S16x1022_S16x1024_d1)
      (concatenate S16x1024 1 [⟨S16x4, extractStridedSlice S16x4 ![0, 0] v slices_S16x1024_o0_0_S16x4⟩, ⟨S16x1020, extractStridedSlice S16x1020 ![0, 0] v slices_S16x1024_o0_0_S16x1020⟩] concatenates_S16x4_S16x1020_S16x1024_d1))
  | 1 => select (cmpi .eq kzV (broadcast S16x1024 0#32)) v
      (concatenate S16x1024 1 [⟨S16x2, extractStridedSlice S16x2 ![0, 0] v slices_S16x1024_o0_0_S16x2⟩, ⟨S16x1022, extractStridedSlice S16x1022 ![0, 0] v slices_S16x1024_o0_0_S16x1022⟩] concatenates_S16x2_S16x1022_S16x1024_d1)
  | 2 => v
  | 3 => select (cmpi .eq kzV (broadcast S16x1024 15#32)) v
      (concatenate S16x1024 1 [⟨S16x1022, extractStridedSlice S16x1022 ![0, 2] v slices_S16x1024_o0_2_S16x1022⟩, ⟨S16x2, extractStridedSlice S16x2 ![0, 1022] v slices_S16x1024_o0_1022_S16x2⟩] concatenates_S16x1022_S16x2_S16x1024_d1)
  | 4 => select (cmpi .eq kzV (broadcast S16x1024 15#32)) v (select (cmpi .eq kzV (broadcast S16x1024 14#32))
      (concatenate S16x1024 1 [⟨S16x1022, extractStridedSlice S16x1022 ![0, 2] v slices_S16x1024_o0_2_S16x1022⟩, ⟨S16x2, extractStridedSlice S16x2 ![0, 1022] v slices_S16x1024_o0_1022_S16x2⟩] concatenates_S16x1022_S16x2_S16x1024_d1)
      (concatenate S16x1024 1 [⟨S16x1020, extractStridedSlice S16x1020 ![0, 4] v slices_S16x1024_o0_4_S16x1020⟩, ⟨S16x4, extractStridedSlice S16x4 ![0, 1020] v slices_S16x1024_o0_1020_S16x4⟩] concatenates_S16x1020_S16x4_S16x1024_d1))

/-- The first row twice in front, the last row twice behind. -/
def pad (v : Vec F S16x1024 .f32) : Vec F S20x1024 .f32 :=
  concatenate S20x1024 0 [⟨S1x1024, extractStridedSlice S1x1024 ![0, 0] v slices_S16x1024_o0_0_S1x1024⟩, ⟨S1x1024, extractStridedSlice S1x1024 ![0, 0] v slices_S16x1024_o0_0_S1x1024⟩, ⟨S16x1024, v⟩, ⟨S1x1024, extractStridedSlice S1x1024 ![15, 0] v slices_S16x1024_o15_0_S1x1024⟩, ⟨S1x1024, extractStridedSlice S1x1024 ![15, 0] v slices_S16x1024_o15_0_S1x1024⟩] concatenates_S1x1024_S1x1024_S16x1024_S1x1024_S1x1024_S20x1024_d0

/-- `1 / (2 s²)` of `s = max (exp raw) ε`. -/
def spatialOf (r : Vec F S16x1024 .f32) : Vec F S16x1024 .f32 :=
  divf (kst 1065353216#32) (mulf (kst 1073741824#32) (mulf (maximumf (exp r) (kst 897988541#32)) (maximumf (exp r) (kst 897988541#32))))

/-- `1 / (2 s² + δ)` likewise. -/
def rangeOf (r : Vec F S16x1024 .f32) : Vec F S16x1024 .f32 :=
  divf (kst 1065353216#32) (addf (mulf (kst 1073741824#32) (mulf (maximumf (exp r) (kst 897988541#32)) (maximumf (exp r) (kst 897988541#32)))) (kst 841731191#32))

/-- Three quarters of a map and one quarter of another. -/
def mix (a b : Vec F S16x1024 .f32) : Vec F S16x1024 .f32 := addf (mulf (kst 1061158912#32) a) (mulf (kst 1048576000#32) b)

/-- The largest of the three spatial widths. -/
def widest (rx ry rz : Vec F S16x1024 .f32) : Vec F S16x1024 .f32 := maximumf (exp rx) (maximumf (exp ry) (exp rz))

/-- The neighbour along the second coordinate that the lane's parity looks at. -/
def nearY (v : Vec F S16x1024 .f32) : Vec F S16x1024 .f32 :=
  select (cmpi .eq pyV (broadcast S16x1024 0#32))
    (concatenate S16x1024 1 [⟨S16x64, extractStridedSlice S16x64 ![0, 0] v slices_S16x1024_o0_0_S16x64⟩, ⟨S16x960, extractStridedSlice S16x960 ![0, 0] v slices_S16x1024_o0_0_S16x960⟩] concatenates_S16x64_S16x960_S16x1024_d1)
    (concatenate S16x1024 1 [⟨S16x960, extractStridedSlice S16x960 ![0, 64] v slices_S16x1024_o0_64_S16x960⟩, ⟨S16x64, extractStridedSlice S16x64 ![0, 960] v slices_S16x1024_o0_960_S16x64⟩] concatenates_S16x960_S16x64_S16x1024_d1)

/-- Along the third coordinate. -/
def nearZ (v : Vec F S16x1024 .f32) : Vec F S16x1024 .f32 := select (cmpi .eq pzV (broadcast S16x1024 0#32)) (zsh 1 v) (zsh 3 v)

/-- Along the first coordinate, even half and odd half. -/
def nearX0 (v : Vec F S16x1024 .f32) : Vec F S16x1024 .f32 :=
  concatenate S16x1024 0 [⟨S1x1024, extractStridedSlice S1x1024 ![0, 0] v slices_S16x1024_o0_0_S1x1024⟩, ⟨S15x1024, extractStridedSlice S15x1024 ![0, 0] v slices_S16x1024_o0_0_S15x1024⟩] concatenates_S1x1024_S15x1024_S16x1024_d0
def nearX1 (v : Vec F S16x1024 .f32) : Vec F S16x1024 .f32 :=
  concatenate S16x1024 0 [⟨S15x1024, extractStridedSlice S15x1024 ![1, 0] v slices_S16x1024_o1_0_S15x1024⟩, ⟨S1x1024, extractStridedSlice S1x1024 ![15, 0] v slices_S16x1024_o15_0_S1x1024⟩] concatenates_S15x1024_S1x1024_S16x1024_d0

/-- A map brought to full resolution along the second and third coordinates. -/
def upYZ (v : Vec F S16x1024 .f32) : Vec F S16x1024 .f32 := mix (mix v (nearY v)) (nearZ (mix v (nearY v)))

/-- The factor which makes up for the weights that fall outside. -/
def renorm (q : IVec S16x1024 32) : Vec F S3x16x1024 .f32 :=
  broadcastTo S3x16x1024 (shapeCast S1x16x1024 (select (ori (cmpi .eq q (broadcast S16x1024 0#32)) (cmpi .eq q (broadcast S16x1024 15#32)))
    (broadcast S16x1024 (Named.named κ "renorm" 0x3F924925#32)) (kst 0x3F800000#32)) shapeCasts_S16x1024_S1x16x1024) broadcasts_S1x16x1024_S3x16x1024

/-- A float constant over the shape of the three guide maps. -/
def kst3 (b : BitVec 32) : Vec F S3x16x1024 .f32 := broadcast S3x16x1024 (FloatOps.ofBits FTy.f32 b)

/-- The guide's two halves along the first coordinate, weighed together. -/
def downX (g0 g1 : Vec F S3x16x1024 .f32) : Vec F S3x16x1024 .f32 :=
  mulf (addf (mulf (kst3 0x3EC00000#32) (addf g0 g1)) (mulf (kst3 0x3E000000#32) (addf
    (concatenate S3x16x1024 1 [⟨S3x1x1024, broadcast S3x1x1024 (FloatOps.ofBits FTy.f32 0#32)⟩, ⟨S3x15x1024, extractStridedSlice S3x15x1024 ![0, 0, 0] g1 slices_S3x16x1024_o0_0_0_S3x15x1024⟩] concatenates_S3x1x1024_S3x15x1024_S3x16x1024_d1)
    (concatenate S3x16x1024 1 [⟨S3x15x1024, extractStridedSlice S3x15x1024 ![0, 1, 0] g0 slices_S3x16x1024_o0_1_0_S3x15x1024⟩, ⟨S3x1x1024, broadcast S3x1x1024 (FloatOps.ofBits FTy.f32 0#32)⟩] concatenates_S3x15x1024_S3x1x1024_S3x16x1024_d1))))
    (renorm rowV)

/-- A shift by `d - 2` steps along the second full coordinate, zeros coming in. -/
def shY (d : Fin 5) (g : Vec F S3x16x1024 .f32) : Vec F S3x16x1024 .f32 :=
  match d with
  | 0 => concatenate S3x16x1024 2 [⟨S3x16x64, broadcast S3x16x64 (FloatOps.ofBits FTy.f32 0#32)⟩, ⟨S3x16x960, extractStridedSlice S3x16x960 ![0, 0, 0] g slices_S3x16x1024_o0_0_0_S3x16x960⟩] concatenates_S3x16x64_S3x16x960_S3x16x1024_d2
  | 1 => concatenate S3x16x1024 2 [⟨S3x16x32, broadcast S3x16x32 (FloatOps.ofBits FTy.f32 0#32)⟩, ⟨S3x16x992, extractStridedSlice S3x16x992 ![0, 0, 0] g slices_S3x16x1024_o0_0_0_S3x16x992⟩] concatenates_S3x16x32_S3x16x992_S3x16x1024_d2
  | 2 => g
  | 3 => concatenate S3x16x1024 2 [⟨S3x16x992, extractStridedSlice S3x16x992 ![0, 0, 32] g slices_S3x16x1024_o0_0_32_S3x16x992⟩, ⟨S3x16x32, broadcast S3x16x32 (FloatOps.ofBits FTy.f32 0#32)⟩] concatenates_S3x16x992_S3x16x32_S3x16x1024_d2
  | 4 => concatenate S3x16x1024 2 [⟨S3x16x960, extractStridedSlice S3x16x960 ![0, 0, 64] g slices_S3x16x1024_o0_0_64_S3x16x960⟩, ⟨S3x16x64, broadcast S3x16x64 (FloatOps.ofBits FTy.f32 0#32)⟩] concatenates_S3x16x960_S3x16x64_S3x16x1024_d2

/-- The lanes whose third full coordinate stays inside when moved by the word `o`. -/
def inside (o : BitVec 32) : IVec S3x16x1024 1 :=
  broadcastTo S3x16x1024 (shapeCast S1x16x1024 (andi (cmpi .sge (addi zzV (broadcast S16x1024 o)) (broadcast S16x1024 0#32)) (cmpi .sle (addi zzV (broadcast S16x1024 o)) (broadcast S16x1024 31#32))) shapeCasts_S16x1024_S1x16x1024) broadcasts_S1x16x1024_S3x16x1024

/-- A shift by `d - 2` steps along the third full coordinate, zeros coming in. -/
def shZ (d : Fin 5) (g : Vec F S3x16x1024 .f32) : Vec F S3x16x1024 .f32 :=
  match d with
  | 0 => select (inside 4294967294#32) (concatenate S3x16x1024 2 [⟨S3x16x2, broadcast S3x16x2 (FloatOps.ofBits FTy.f32 0#32)⟩, ⟨S3x16x1022, extractStridedSlice S3x16x1022 ![0, 0, 0] g slices_S3x16x1024_o0_0_0_S3x16x1022⟩] concatenates_S3x16x2_S3x16x1022_S3x16x1024_d2) (kst3 0#32)
  | 1 => select (inside 4294967295#32) (concatenate S3x16x1024 2 [⟨S3x16x1, broadcast S3x16x1 (FloatOps.ofBits FTy.f32 0#32)⟩, ⟨S3x16x1023, extractStridedSlice S3x16x1023 ![0, 0, 0] g slices_S3x16x1024_o0_0_0_S3x16x1023⟩] concatenates_S3x16x1_S3x16x1023_S3x16x1024_d2) (kst3 0#32)
  | 2 => g
  | 3 => select (inside 1#32) (concatenate S3x16x1024 2 [⟨S3x16x1023, extractStridedSlice S3x16x1023 ![0, 0, 1] g slices_S3x16x1024_o0_0_1_S3x16x1023⟩, ⟨S3x16x1, broadcast S3x16x1 (FloatOps.ofBits FTy.f32 0#32)⟩] concatenates_S3x16x1023_S3x16x1_S3x16x1024_d2) (kst3 0#32)
  | 4 => select (inside 2#32) (concatenate S3x16x1024 2 [⟨S3x16x1022, extractStridedSlice S3x16x1022 ![0, 0, 2] g slices_S3x16x1024_o0_0_2_S3x16x1022⟩, ⟨S3x16x2, broadcast S3x16x2 (FloatOps.ofBits FTy.f32 0#32)⟩] concatenates_S3x16x1022_S3x16x2_S3x16x1024_d2) (kst3 0#32)

/-- The four taps around an even place and around an odd one. -/
def taps (sh : Fin 5 → Vec F S3x16x1024 .f32 → Vec F S3x16x1024 .f32) (even : IVec S16x1024 1) (g : Vec F S3x16x1024 .f32) : Vec F S3x16x1024 .f32 :=
  select (broadcastTo S3x16x1024 (shapeCast S1x16x1024 even shapeCasts_S16x1024_S1x16x1024) broadcasts_S1x16x1024_S3x16x1024)
    (addf (addf (addf (mulf (kst3 0x3E000000#32) (sh 1 g)) (mulf (kst3 0x3EC00000#32) g)) (mulf (kst3 0x3EC00000#32) (sh 3 g))) (mulf (kst3 0x3E000000#32) (sh 4 g)))
    (addf (addf (addf (mulf (kst3 0x3E000000#32) (sh 0 g)) (mulf (kst3 0x3EC00000#32) (sh 1 g))) (mulf (kst3 0x3EC00000#32) g)) (mulf (kst3 0x3E000000#32) (sh 3 g)))

/-- The guide at low resolution, repeated over the fine places of a coarse one. -/
def down (g0 g1 : Vec F S3x16x1024 .f32) : Vec F S3x16x1024 .f32 :=
  mulf (taps shZ (cmpi .eq pzV (broadcast S16x1024 0#32))
    (mulf (taps shY (cmpi .eq pyV (broadcast S16x1024 0#32)) (downX g0 g1)) (renorm kyV))) (renorm kzV)

/-- Raw map `i` as the body reads it. -/
def rawAt (arg2 : Memref sig .tc .vmem S4x16x1024 .f32) (harg2 : arg2.IsWhole) (x2 : Vec F S4x16x1024 .f32) (i : Fin 4) : Vec F S16x1024 .f32 :=
  shapeCast S16x1024 (View.readAt (Elt F) arg2.view (Rect.unit (s := S4x16x1024) ![i.val, 0, 0] S1x16x1024.size (by
    intro j; fin_cases j
    · show i.val + 1 ≤ 4; omega
    · show 0 + 16 ≤ 16; omega
    · show 0 + 1024 ≤ 1024; omega)).toLoadRect (harg2.unread x2)) shapeCasts_S1x16x1024_S16x1024

/-- One half of the guide along the first coordinate. -/
def halfAt (arg1 : Memref sig .tc .vmem S2x3x16x1024 .f32) (harg1 : arg1.IsWhole) (x1 : Vec F S2x3x16x1024 .f32) (p : Fin 2) : Vec F S3x16x1024 .f32 :=
  shapeCast S3x16x1024 (View.readAt (Elt F) arg1.view (Rect.unit (s := S2x3x16x1024) ![p.val, 0, 0, 0] S1x3x16x1024.size (by
    intro j; fin_cases j
    · show p.val + 1 ≤ 2; omega
    · show 0 + 3 ≤ 3; omega
    · show 0 + 16 ≤ 16; omega
    · show 0 + 1024 ≤ 1024; omega)).toLoadRect (harg1.unread x1)) shapeCasts_S1x3x16x1024_S3x16x1024

/-- One of the three guide maps. -/
def chan (g : Fin 3) (v : Vec F S3x16x1024 .f32) : Vec F S16x1024 .f32 :=
  match g with
  | 0 => shapeCast S16x1024 (extractStridedSlice S1x16x1024 ![0, 0, 0] v slices_S3x16x1024_o0_0_0_S1x16x1024) shapeCasts_S1x16x1024_S16x1024
  | 1 => shapeCast S16x1024 (extractStridedSlice S1x16x1024 ![1, 0, 0] v slices_S3x16x1024_o1_0_0_S1x16x1024) shapeCasts_S1x16x1024_S16x1024
  | 2 => shapeCast S16x1024 (extractStridedSlice S1x16x1024 ![2, 0, 0] v slices_S3x16x1024_o2_0_0_S1x16x1024) shapeCasts_S1x16x1024_S16x1024

/-- The clamped shift of the features along the third coordinate, its padding. -/
def kzF : IVec S32x16x1024 32 := andi (shrsi (iota Kind.tc S32x16x1024 32 [2] iota_S32x16x1024_d2_w32) (broadcast S32x16x1024 1#32)) (broadcast S32x16x1024 15#32)
def zshF (d : Fin 5) (v : Vec F S32x16x1024 .f32) : Vec F S32x16x1024 .f32 :=
  match d with
  | 0 => select (cmpi .eq kzF (broadcast S32x16x1024 0#32)) v (select (cmpi .eq kzF (broadcast S32x16x1024 1#32))
      (concatenate S32x16x1024 2 [⟨S32x16x2, extractStridedSlice S32x16x2 ![0, 0, 0] v slices_S32x16x1024_o0_0_0_S32x16x2⟩, ⟨S32x16x1022, extractStridedSlice S32x16x1022 ![0, 0, 0] v slices_S32x16x1024_o0_0_0_S32x16x1022⟩] concatenates_S32x16x2_S32x16x1022_S32x16x1024_d2)
      (concatenate S32x16x1024 2 [⟨S32x16x4, extractStridedSlice S32x16x4 ![0, 0, 0] v slices_S32x16x1024_o0_0_0_S32x16x4⟩, ⟨S32x16x1020, extractStridedSlice S32x16x1020 ![0, 0, 0] v slices_S32x16x1024_o0_0_0_S32x16x1020⟩] concatenates_S32x16x4_S32x16x1020_S32x16x1024_d2))
  | 1 => select (cmpi .eq kzF (broadcast S32x16x1024 0#32)) v
      (concatenate S32x16x1024 2 [⟨S32x16x2, extractStridedSlice S32x16x2 ![0, 0, 0] v slices_S32x16x1024_o0_0_0_S32x16x2⟩, ⟨S32x16x1022, extractStridedSlice S32x16x1022 ![0, 0, 0] v slices_S32x16x1024_o0_0_0_S32x16x1022⟩] concatenates_S32x16x2_S32x16x1022_S32x16x1024_d2)
  | 2 => v
  | 3 => select (cmpi .eq kzF (broadcast S32x16x1024 15#32)) v
      (concatenate S32x16x1024 2 [⟨S32x16x1022, extractStridedSlice S32x16x1022 ![0, 0, 2] v slices_S32x16x1024_o0_0_2_S32x16x1022⟩, ⟨S32x16x2, extractStridedSlice S32x16x2 ![0, 0, 1022] v slices_S32x16x1024_o0_0_1022_S32x16x2⟩] concatenates_S32x16x1022_S32x16x2_S32x16x1024_d2)
  | 4 => select (cmpi .eq kzF (broadcast S32x16x1024 15#32)) v (select (cmpi .eq kzF (broadcast S32x16x1024 14#32))
      (concatenate S32x16x1024 2 [⟨S32x16x1022, extractStridedSlice S32x16x1022 ![0, 0, 2] v slices_S32x16x1024_o0_0_2_S32x16x1022⟩, ⟨S32x16x2, extractStridedSlice S32x16x2 ![0, 0, 1022] v slices_S32x16x1024_o0_0_1022_S32x16x2⟩] concatenates_S32x16x1022_S32x16x2_S32x16x1024_d2)
      (concatenate S32x16x1024 2 [⟨S32x16x1020, extractStridedSlice S32x16x1020 ![0, 0, 4] v slices_S32x16x1024_o0_0_4_S32x16x1020⟩, ⟨S32x16x4, extractStridedSlice S32x16x4 ![0, 0, 1020] v slices_S32x16x1024_o0_0_1020_S32x16x4⟩] concatenates_S32x16x1020_S32x16x4_S32x16x1024_d2))
def padF (v : Vec F S32x16x1024 .f32) : Vec F S32x20x1024 .f32 :=
  concatenate S32x20x1024 1 [⟨S32x1x1024, extractStridedSlice S32x1x1024 ![0, 0, 0] v slices_S32x16x1024_o0_0_0_S32x1x1024⟩, ⟨S32x1x1024, extractStridedSlice S32x1x1024 ![0, 0, 0] v slices_S32x16x1024_o0_0_0_S32x1x1024⟩, ⟨S32x16x1024, v⟩, ⟨S32x1x1024, extractStridedSlice S32x1x1024 ![0, 15, 0] v slices_S32x16x1024_o0_15_0_S32x1x1024⟩, ⟨S32x1x1024, extractStridedSlice S32x1x1024 ![0, 15, 0] v slices_S32x16x1024_o0_15_0_S32x1x1024⟩] concatenates_S32x1x1024_S32x1x1024_S32x16x1024_S32x1x1024_S32x1x1024_S32x20x1024_d1

/-- The clamped shift of four feature maps along the second coordinate. -/
def yshF (d : Fin 5) (v : Vec F S4x20x1024 .f32) : Vec F S4x20x1024 .f32 :=
  match d with
  | 0 => concatenate S4x20x1024 2 [⟨S4x20x64, extractStridedSlice S4x20x64 ![0, 0, 0] v slices_S4x20x1024_o0_0_0_S4x20x64⟩, ⟨S4x20x64, extractStridedSlice S4x20x64 ![0, 0, 0] v slices_S4x20x1024_o0_0_0_S4x20x64⟩, ⟨S4x20x896, extractStridedSlice S4x20x896 ![0, 0, 0] v slices_S4x20x1024_o0_0_0_S4x20x896⟩] concatenates_S4x20x64_S4x20x64_S4x20x896_S4x20x1024_d2
  | 1 => concatenate S4x20x1024 2 [⟨S4x20x64, extractStridedSlice S4x20x64 ![0, 0, 0] v slices_S4x20x1024_o0_0_0_S4x20x64⟩, ⟨S4x20x960, extractStridedSlice S4x20x960 ![0, 0, 0] v slices_S4x20x1024_o0_0_0_S4x20x960⟩] concatenates_S4x20x64_S4x20x960_S4x20x1024_d2
  | 2 => v
  | 3 => concatenate S4x20x1024 2 [⟨S4x20x960, extractStridedSlice S4x20x960 ![0, 0, 64] v slices_S4x20x1024_o0_0_64_S4x20x960⟩, ⟨S4x20x64, extractStridedSlice S4x20x64 ![0, 0, 960] v slices_S4x20x1024_o0_0_960_S4x20x64⟩] concatenates_S4x20x960_S4x20x64_S4x20x1024_d2
  | 4 => concatenate S4x20x1024 2 [⟨S4x20x896, extractStridedSlice S4x20x896 ![0, 0, 128] v slices_S4x20x1024_o0_0_128_S4x20x896⟩, ⟨S4x20x64, extractStridedSlice S4x20x64 ![0, 0, 960] v slices_S4x20x1024_o0_0_960_S4x20x64⟩, ⟨S4x20x64, extractStridedSlice S4x20x64 ![0, 0, 960] v slices_S4x20x1024_o0_0_960_S4x20x64⟩] concatenates_S4x20x896_S4x20x64_S4x20x64_S4x20x1024_d2
def rowsF (d : Fin 5) (v : Vec F S4x20x1024 .f32) : Vec F S4x16x1024 .f32 :=
  match d with
  | 0 => extractStridedSlice S4x16x1024 ![0, 0, 0] v slices_S4x20x1024_o0_0_0_S4x16x1024
  | 1 => extractStridedSlice S4x16x1024 ![0, 1, 0] v slices_S4x20x1024_o0_1_0_S4x16x1024
  | 2 => extractStridedSlice S4x16x1024 ![0, 2, 0] v slices_S4x20x1024_o0_2_0_S4x16x1024
  | 3 => extractStridedSlice S4x16x1024 ![0, 3, 0] v slices_S4x20x1024_o0_3_0_S4x16x1024
  | 4 => extractStridedSlice S4x16x1024 ![0, 4, 0] v slices_S4x20x1024_o0_4_0_S4x16x1024

/-- The seven small maps. -/
def smallMap (raw : Fin 4 → Vec F S16x1024 .f32) (g0 g1 : Vec F S3x16x1024 .f32) (q : Fin 7) : Vec F S16x1024 .f32 :=
  match q with
  | 0 => spatialOf (raw 0)
  | 1 => spatialOf (raw 1)
  | 2 => spatialOf (raw 2)
  | 3 => rangeOf (raw 3)
  | 4 => chan 0 (down g0 g1)
  | 5 => chan 1 (down g0 g1)
  | 6 => chan 2 (down g0 g1)

section
variable (c : Dev nD) (arg0 : Memref sig .tc .vmem S32x16x1024 .f32) (harg0 : arg0.IsWhole) (arg1 : Memref sig .tc .vmem S2x3x16x1024 .f32) (harg1 : arg1.IsWhole) (arg2 : Memref sig .tc .vmem S4x16x1024 .f32) (harg2 : arg2.IsWhole) (arg3 : Memref sig .tc .vmem S33x2x16 .f32) (harg3 : arg3.IsWhole) (arg4 : Memref sig .tc .vmem S33x1024 .f32) (harg4 : arg4.IsWhole) (arg5 : Memref sig .tc .vmem S33x1024 .f32) (harg5 : arg5.IsWhole) (arg7 : Memref sig .tc .vmem S5x7x20x1024 .f32) (arg9 : Memref sig .tc .vmem S33x2x16x1024 .f32) (arg10 : Memref sig .tc .vmem S2x16x1024 .f32)
    (x0 : Vec F S32x16x1024 .f32) (x1 : Vec F S2x3x16x1024 .f32) (x2 : Vec F S4x16x1024 .f32) (x3 : Vec F S33x2x16 .f32) (x4 : Vec F S33x1024 .f32) (x5 : Vec F S33x1024 .f32)

theorem run_down : kernelRun0_A.sl.v343 c arg1 harg1 x1 = down (halfAt arg1 harg1 x1 0) (halfAt arg1 harg1 x1 1) := by
  rfl

/-- The pieces of the first scratch. -/
def slabPieces : List (View.Piece (Elt F) S5x7x20x1024 .f32) :=
  [4, 3, 2, 1, 0].flatMap fun a : Fin 5 => [6, 5, 4, 3, 2, 1, 0].map fun q : Fin 7 =>
    ⟨rectS a q, shapeCast S1x1x20x1024 (pad (zsh a (smallMap (rawAt arg2 harg2 x2) (halfAt arg1 harg1 x1 0) (halfAt arg1 harg1 x1 1) q))) shapeCasts_S20x1024_S1x1x20x1024⟩

theorem slab_pieces : kernelRun0_A.sl.HS0_35 c arg1 harg1 arg2 harg2 x1 x2 = slabPieces arg1 harg1 arg2 harg2 x1 x2 := by
  rfl

/-- The rectangle of shift `a` in the second scratch. -/
def rectF (a : Fin 5) : Rect S5x32x20x1024 :=
  Rect.unit ![a.val, 0, 0, 0] S1x32x20x1024.size (by
    intro i; fin_cases i
    · show a.val + 1 ≤ 5; omega
    · show 0 + 32 ≤ 32; omega
    · show 0 + 20 ≤ 20; omega
    · show 0 + 1024 ≤ 1024; omega)

/-- The features as the body reads them. -/
def featIn : Vec F S32x16x1024 .f32 :=
  shapeCast S32x16x1024 (View.readAt (Elt F) arg0.view (Rect.unit (s := S32x16x1024) ![0, 0, 0] S32x16x1024.size inb_S32x16x1024_S32x16x1024_0_0_0).toLoadRect (harg0.unread x0)) shapeCasts_S32x16x1024_S32x16x1024

/-- The pieces of the second scratch. -/
def featPieces : List (View.Piece (Elt F) S5x32x20x1024 .f32) :=
  [4, 3, 2, 1, 0].map fun a : Fin 5 => ⟨rectF a, shapeCast S1x32x20x1024 (padF (zshF a (featIn arg0 harg0 x0))) shapeCasts_S32x20x1024_S1x32x20x1024⟩

theorem feat_pieces : kernelRun0_A.sl.HS1_5 c arg0 harg0 x0 = featPieces arg0 harg0 x0 := by
  rfl

/-- The radius map brought to full resolution in two coordinates. -/
def radius : Vec F S16x1024 .f32 := upYZ (widest (rawAt arg2 harg2 x2 0) (rawAt arg2 harg2 x2 1) (rawAt arg2 harg2 x2 2))

/-- The pieces of the last scratch: its odd half, then its even half. -/
def thrPieces : List (View.Piece (Elt F) S2x16x1024 .f32) :=
  [⟨Rect.unit ![1, 0, 0] S1x16x1024.size inb_S2x16x1024_S1x16x1024_1_0_0, shapeCast S1x16x1024 (mix (radius arg2 harg2 x2) (nearX1 (radius arg2 harg2 x2))) shapeCasts_S16x1024_S1x16x1024⟩,
    ⟨Rect.unit ![0, 0, 0] S1x16x1024.size inb_S2x16x1024_S1x16x1024_0_0_0, shapeCast S1x16x1024 (mix (radius arg2 harg2 x2) (nearX0 (radius arg2 harg2 x2))) shapeCasts_S16x1024_S1x16x1024⟩]

theorem thr_pieces : kernelRun0_A.sl.HS3_2 c arg2 harg2 x2 = thrPieces arg2 harg2 x2 := by
  rfl
end

end Cert.Proof
end
-- ==== Proof.KOut.lean ====
/- The exponentials the body stores, their sum, and the eight blocks of results. -/
module

public import proofs.«01_k».proof.Proof.KVec

@[expose] public section

set_option maxRecDepth 16384

noncomputable section

namespace Cert.Proof

open Idealize.ShloMosaic Cert.KernelIdeal Cert.KernelIdeal.Gen

variable {F : FTy → Type} [FloatOps F] [Named F]

variable (c : Dev nD) (arg0 : Memref sig .tc .vmem S32x16x1024 .f32) (harg0 : arg0.IsWhole) (arg1 : Memref sig .tc .vmem S2x3x16x1024 .f32) (harg1 : arg1.IsWhole) (arg2 : Memref sig .tc .vmem S4x16x1024 .f32) (harg2 : arg2.IsWhole) (arg3 : Memref sig .tc .vmem S33x2x16 .f32) (harg3 : arg3.IsWhole) (arg4 : Memref sig .tc .vmem S33x1024 .f32) (harg4 : arg4.IsWhole) (arg5 : Memref sig .tc .vmem S33x1024 .f32) (harg5 : arg5.IsWhole) (arg7 : Memref sig .tc .vmem S5x7x20x1024 .f32) (arg8 : Memref sig .tc .vmem S5x32x20x1024 .f32) (arg9 : Memref sig .tc .vmem S33x2x16x1024 .f32) (arg10 : Memref sig .tc .vmem S2x16x1024 .f32)
    (x0 : Vec F S32x16x1024 .f32) (x1 : Vec F S2x3x16x1024 .f32) (x2 : Vec F S4x16x1024 .f32) (x3 : Vec F S33x2x16 .f32) (x4 : Vec F S33x1024 .f32) (x5 : Vec F S33x1024 .f32)

/-- The largest masked log weight, taken in the order of the visits. -/
def maxW : Vec F S2x16x1024 .f32 :=
  visit.tail.foldl (fun m n => maximumf m (maskW c arg1 harg1 arg2 harg2 arg3 harg3 arg4 harg4 arg5 harg5 arg7 arg10 x1 x2 x3 x4 x5 n)) (maskW c arg1 harg1 arg2 harg2 arg3 harg3 arg4 harg4 arg5 harg5 arg7 arg10 x1 x2 x3 x4 x5 10)

theorem run_max : kernelRun0_A.sl.r_76 c arg1 harg1 arg2 harg2 arg3 harg3 arg4 harg4 arg5 harg5 arg7 arg10 x1 x2 x3 x4 x5
    = maxW c arg1 harg1 arg2 harg2 arg3 harg3 arg4 harg4 arg5 harg5 arg7 arg10 x1 x2 x3 x4 x5 := by
  rfl

/-- The exponential of the log weight of offset `n` that a list of pieces holds. -/
def expFrom (L : List (View.Piece (Elt F) S33x2x16x1024 .f32)) (M : Vec F S2x16x1024 .f32) (n : Fin 33) : Vec F S2x16x1024 .f32 :=
  exp (subf (shapeCast S2x16x1024 (arg9.view.readCov L (rectW n).toLoadRect) shapeCasts_S1x2x16x1024_S2x16x1024) M)

/-- The pieces after the exponentials of a list of offsets have been stored. -/
def expPieces (L : List (View.Piece (Elt F) S33x2x16x1024 .f32)) (M : Vec F S2x16x1024 .f32) : List (Fin 33) → List (View.Piece (Elt F) S33x2x16x1024 .f32)
  | [] => L
  | n :: l => ⟨rectW n, shapeCast S1x2x16x1024 (expFrom arg9 (expPieces L M l) M n) shapeCasts_S2x16x1024_S1x2x16x1024⟩ :: expPieces L M l

theorem exp_pieces : kernelRun0_A.sl.HS2_66 c arg1 harg1 arg2 harg2 arg3 harg3 arg4 harg4 arg5 harg5 arg7 arg9 arg10 x1 x2 x3 x4 x5
    = expPieces arg9 (kernelRun0_A.sl.HS2_33 c arg1 harg1 arg2 harg2 arg3 harg3 arg4 harg4 arg5 harg5 arg7 arg10 x1 x2 x3 x4 x5)
        (kernelRun0_A.sl.r_76 c arg1 harg1 arg2 harg2 arg3 harg3 arg4 harg4 arg5 harg5 arg7 arg10 x1 x2 x3 x4 x5)
        [32, 31, 30, 29, 28, 27, 26, 25, 24, 23, 22, 21, 20, 19, 18, 17, 16, 15, 14, 13, 12, 11, 10, 9, 8, 7, 6, 5, 4, 3, 2, 1, 0] := by
  rfl

/-- The sum of the exponentials. -/
def denFrom (L : List (View.Piece (Elt F) S33x2x16x1024 .f32)) (M : Vec F S2x16x1024 .f32) : List (Fin 33) → Vec F S2x16x1024 .f32
  | [] => broadcast S2x16x1024 (FloatOps.ofBits FTy.f32 0#32)
  | [n] => expFrom arg9 L M n
  | n :: l => addf (denFrom L M l) (expFrom arg9 (expPieces arg9 L M l) M n)

theorem run_den : kernelRun0_A.sl.v3769 c arg1 harg1 arg2 harg2 arg3 harg3 arg4 harg4 arg5 harg5 arg7 arg9 arg10 x1 x2 x3 x4 x5
    = denFrom arg9 (kernelRun0_A.sl.HS2_33 c arg1 harg1 arg2 harg2 arg3 harg3 arg4 harg4 arg5 harg5 arg7 arg10 x1 x2 x3 x4 x5)
        (kernelRun0_A.sl.r_76 c arg1 harg1 arg2 harg2 arg3 harg3 arg4 harg4 arg5 harg5 arg7 arg10 x1 x2 x3 x4 x5)
        [32, 31, 30, 29, 28, 27, 26, 25, 24, 23, 22, 21, 20, 19, 18, 17, 16, 15, 14, 13, 12, 11, 10, 9, 8, 7, 6, 5, 4, 3, 2, 1, 0] := by
  rfl

/-- The rectangle of four channels at shift `a` in the second scratch, and in the result. -/
def rectC (a : Fin 5) (b : Fin 8) : Rect S5x32x20x1024 :=
  Rect.unit ![a.val, 4 * b.val, 0, 0] S1x4x20x1024.size (by
    intro i; fin_cases i
    · show a.val + 1 ≤ 5; omega
    · show 4 * b.val + 4 ≤ 32; omega
    · show 0 + 20 ≤ 20; omega
    · show 0 + 1024 ≤ 1024; omega)
def rectO (b : Fin 8) : Rect S2x32x16x1024 :=
  Rect.unit ![0, 4 * b.val, 0, 0] S2x4x16x1024.size (by
    intro i; fin_cases i
    · show 0 + 2 ≤ 2; omega
    · show 4 * b.val + 4 ≤ 32; omega
    · show 0 + 16 ≤ 16; omega
    · show 0 + 1024 ≤ 1024; omega)

/-- A weight map repeated over four channels. -/
def over4 (v : Vec F S2x16x1024 .f32) : Vec F S2x4x16x1024 .f32 :=
  broadcastTo S2x4x16x1024 (shapeCast S2x1x16x1024 v shapeCasts_S2x16x1024_S2x1x16x1024) broadcasts_S2x1x16x1024_S2x4x16x1024

/-- Four channels of the features as offset `n` reads them. -/
def featAt (Lf : List (View.Piece (Elt F) S5x32x20x1024 .f32)) (n : Fin 33) (b : Fin 8) : Vec F S4x16x1024 .f32 :=
  rowsF (offX n) (yshF (offY n) (shapeCast S4x20x1024 (arg8.view.readCov Lf (rectC (offZ n) b).toLoadRect) shapeCasts_S1x4x20x1024_S4x20x1024))

/-- Offset `n`'s part of four channels of the result. -/
def part (L : List (View.Piece (Elt F) S33x2x16x1024 .f32)) (Lf : List (View.Piece (Elt F) S5x32x20x1024 .f32)) (b : Fin 8) (n : Fin 33) : Vec F S2x4x16x1024 .f32 :=
  mulf (over4 (shapeCast S2x16x1024 (arg9.view.readCov L (rectW n).toLoadRect) shapeCasts_S1x2x16x1024_S2x16x1024))
    (broadcastTo S2x4x16x1024 (shapeCast S1x4x16x1024 (featAt arg8 Lf n b) shapeCasts_S4x16x1024_S1x4x16x1024) broadcasts_S1x4x16x1024_S2x4x16x1024)

/-- Four channels of the result. -/
def block (L : List (View.Piece (Elt F) S33x2x16x1024 .f32)) (Lf : List (View.Piece (Elt F) S5x32x20x1024 .f32)) (D : Vec F S2x16x1024 .f32) (b : Fin 8) : Vec F S2x4x16x1024 .f32 :=
  mulf (visit.tail.foldl (fun s n => addf s (part arg8 arg9 L Lf b n)) (part arg8 arg9 L Lf b 10))
    (over4 (divf (broadcast S2x16x1024 (FloatOps.ofBits FTy.f32 1065353216#32)) (maximumf D (broadcast S2x16x1024 (FloatOps.ofBits FTy.f32 841731191#32)))))

theorem out_pieces (arg6 : Memref sig .tc .vmem S2x32x16x1024 .f32) (harg6 : arg6.IsWhole) (harg7 : arg7.IsWhole) (harg8 : arg8.IsWhole) (harg9 : arg9.IsWhole) (harg10 : arg10.IsWhole) :
    (kernelRun0_A c arg0 harg0 arg1 harg1 arg2 harg2 arg3 harg3 arg4 harg4 arg5 harg5 arg6 harg6 arg7 harg7 arg8 harg8 arg9 harg9 arg10 harg10 x0 x1 x2 x3 x4 x5).1
      = [7, 6, 5, 4, 3, 2, 1, 0].map fun b : Fin 8 => ⟨rectO b, block arg8 arg9
          (kernelRun0_A.sl.HS2_66 c arg1 harg1 arg2 harg2 arg3 harg3 arg4 harg4 arg5 harg5 arg7 arg9 arg10 x1 x2 x3 x4 x5)
          (kernelRun0_A.sl.HS1_5 c arg0 harg0 x0)
          (kernelRun0_A.sl.v3769 c arg1 harg1 arg2 harg2 arg3 harg3 arg4 harg4 arg5 harg5 arg7 arg9 arg10 x1 x2 x3 x4 x5) b⟩ := by
  rfl

end Cert.Proof
end
-- ==== Proof.Math.lean ====
/- Arithmetic of extended reals that both sides use: the constants, reciprocals of positive numbers, products with a finite
   non-negative factor, the weights of the two resizings, and the masked log weight. -/
module

public import Idealize.ShloMosaic.Lib.Pointwise

@[expose] public section

set_option maxRecDepth 16384

noncomputable section

namespace Cert.Proof

open Idealize.ShloMosaic

theorem c_zero : Ideal.ofBits FTy.f32 0#32 = 0 := by simp [Ideal.ofBits, Ideal.ieee]
theorem c_one : Ideal.ofBits FTy.f32 1065353216#32 = ((1 : ℝ) : EReal) := by
  simp [Ideal.ofBits, Ideal.ieee, -EReal.coe_mul]; norm_num
theorem c_two : Ideal.ofBits FTy.f32 1073741824#32 = ((2 : ℝ) : EReal) := by
  simp [Ideal.ofBits, Ideal.ieee, -EReal.coe_mul]; norm_num
theorem c_half : Ideal.ofBits FTy.f32 1056964608#32 = ((1 / 2 : ℝ) : EReal) := by
  simp [Ideal.ofBits, Ideal.ieee, -EReal.coe_mul]; norm_num
theorem c_quarter : Ideal.ofBits FTy.f32 1048576000#32 = ((1 / 4 : ℝ) : EReal) := by
  simp [Ideal.ofBits, Ideal.ieee, -EReal.coe_mul]; norm_num
theorem c_threeq : Ideal.ofBits FTy.f32 1061158912#32 = ((3 / 4 : ℝ) : EReal) := by
  simp [Ideal.ofBits, Ideal.ieee, -EReal.coe_mul]; norm_num
theorem c_eighth : Ideal.ofBits FTy.f32 1040187392#32 = ((1 / 8 : ℝ) : EReal) := by
  simp [Ideal.ofBits, Ideal.ieee, -EReal.coe_mul]; norm_num
theorem c_threee : Ideal.ofBits FTy.f32 1052770304#32 = ((3 / 8 : ℝ) : EReal) := by
  simp [Ideal.ofBits, Ideal.ieee, -EReal.coe_mul]; norm_num
theorem c_bot : Ideal.ofBits FTy.f32 4286578688#32 = ⊥ := by
  simp [Ideal.ofBits, Ideal.ieee, -EReal.coe_mul]

/-- The floor of a width, and the guard of a denominator. -/
def eps : EReal := Ideal.ofBits FTy.f32 897988541#32
def del : EReal := Ideal.ofBits FTy.f32 841731191#32
theorem eps_pos : 0 < eps := by
  unfold eps
  simp [Ideal.ofBits, Ideal.ieee, -EReal.coe_mul]
theorem del_pos : 0 < del := by
  unfold del
  simp [Ideal.ofBits, Ideal.ieee, -EReal.coe_mul]

theorem div_pos {x y : EReal} (h : 0 < y) : Ideal.div x y = x * y⁻¹ := by
  unfold Ideal.div
  rw [if_neg h.ne']

/-- The reciprocal of a positive number is a non-negative real. -/
theorem inv_real {y : EReal} (h : 0 < y) : ∃ r : ℝ, 0 ≤ r ∧ y⁻¹ = (r : EReal) := by
  induction y with
  | bot => exact absurd h (by simp)
  | top => exact ⟨0, le_rfl, by simp⟩
  | coe y =>
    have hy : 0 < y := by exact_mod_cast h
    exact ⟨y⁻¹, (inv_pos.mpr hy).le, by rw [EReal.coe_inv]⟩

/-- A finite non-negative factor goes into a sum. -/
theorem mul_sum {ι : Type} (s : Finset ι) {w : ℝ} (hw : 0 ≤ w) (f : ι → EReal) : (w : EReal) * ∑ i ∈ s, f i = ∑ i ∈ s, (w : EReal) * f i := by
  classical
  induction s using Finset.induction_on with
  | empty => simp
  | insert a s ha ih =>
    rw [Finset.sum_insert ha, Finset.sum_insert ha, EReal.left_distrib_of_nonneg_of_ne_top (by exact_mod_cast hw) (EReal.coe_ne_top _), ih]

theorem mul_add' {w : ℝ} (hw : 0 ≤ w) (a b : EReal) : (w : EReal) * (a + b) = w * a + w * b :=
  EReal.left_distrib_of_nonneg_of_ne_top (by exact_mod_cast hw) (EReal.coe_ne_top _) _ _

/-! ## The clamped coarse place, and the two resizings -/

/-- Coarse place `k` moved by `d - 2` and clamped. -/
def cl (k : Fin 16) (d : Fin 5) : Fin 16 := ⟨min (k.val + d.val - 2) 15, by omega⟩
/-- The coarse place of a fine one. -/
def half (X : Fin 32) : Fin 16 := ⟨X.val / 2, by omega⟩

/-- Weight numerators: fine to coarse (over 8, or over 7 at the two ends), and coarse to fine (over 4, or over 3). -/
def triD (x : Fin 16) (X : Fin 32) : ℤ := max (4 - |4 * (x.val : ℤ) + 1 - 2 * X.val|) 0
def triU (X : Fin 32) (x : Fin 16) : ℤ := max (4 - |2 * (X.val : ℤ) - 1 - 4 * x.val|) 0
def sumD (x : Fin 16) : ℤ := if x.val = 0 ∨ x.val = 15 then 7 else 8
def sumU (X : Fin 32) : ℤ := if X.val = 0 ∨ X.val = 31 then 3 else 4
theorem sum_triD : ∀ x, ∑ X, triD x X = sumD x := by decide +kernel
theorem sum_triU : ∀ X, ∑ x, triU X x = sumU X := by decide +kernel

def wD (x : Fin 16) (X : Fin 32) : ℝ := (triD x X : ℝ) / sumD x
def wU (X : Fin 32) (x : Fin 16) : ℝ := (triU X x : ℝ) / sumU X
theorem sumD_pos (x : Fin 16) : (0 : ℝ) < sumD x := by unfold sumD; split <;> norm_num
theorem sumU_pos (X : Fin 32) : (0 : ℝ) < sumU X := by unfold sumU; split <;> norm_num
theorem wD_nonneg (x : Fin 16) (X : Fin 32) : 0 ≤ wD x X :=
  div_nonneg (Int.cast_nonneg (show 0 ≤ triD x X from le_max_right _ _)) (sumD_pos x).le
theorem wU_nonneg (X : Fin 32) (x : Fin 16) : 0 ≤ wU X x :=
  div_nonneg (Int.cast_nonneg (show 0 ≤ triU X x from le_max_right _ _)) (sumU_pos X).le

/-- A sum over fine places with only four of them counting. -/
theorem sum_four (f : Fin 32 → EReal) (x : Fin 16) (h : ∀ X : Fin 32, X.val + 1 < 2 * x.val ∨ 2 * x.val + 2 < X.val → f X = 0) :
    ∑ X, f X = (if h0 : 0 < x.val then f ⟨2 * x.val - 1, by omega⟩ else 0) + f ⟨2 * x.val, by omega⟩ + f ⟨2 * x.val + 1, by omega⟩
      + (if h1 : x.val < 15 then f ⟨2 * x.val + 2, by omega⟩ else 0) := by
  have key : ∀ s : Finset (Fin 32), (∀ X : Fin 32, X ∉ s → X.val + 1 < 2 * x.val ∨ 2 * x.val + 2 < X.val) → ∑ X, f X = ∑ X ∈ s, f X :=
    fun s hs => (Finset.sum_subset (Finset.subset_univ s) fun X _ hX => h X (hs X hX)).symm
  by_cases h0 : 0 < x.val
  · by_cases h1 : x.val < 15
    · rw [dif_pos h0, dif_pos h1, key {⟨2 * x.val - 1, by omega⟩, ⟨2 * x.val, by omega⟩, ⟨2 * x.val + 1, by omega⟩, ⟨2 * x.val + 2, by omega⟩}
        (by intro X hX; simp only [Finset.mem_insert, Finset.mem_singleton, not_or, Fin.ext_iff] at hX; omega)]
      rw [Finset.sum_insert (by simp [Fin.ext_iff]; omega), Finset.sum_insert (by simp [Fin.ext_iff]), Finset.sum_insert (by simp [Fin.ext_iff]), Finset.sum_singleton]
      simp only [add_assoc]
    · rw [dif_pos h0, dif_neg h1, key {⟨2 * x.val - 1, by omega⟩, ⟨2 * x.val, by omega⟩, ⟨2 * x.val + 1, by omega⟩}
        (by intro X hX; have := X.isLt; simp only [Finset.mem_insert, Finset.mem_singleton, not_or, Fin.ext_iff] at hX; omega)]
      rw [Finset.sum_insert (by simp [Fin.ext_iff]; omega), Finset.sum_insert (by simp [Fin.ext_iff]), Finset.sum_singleton]
      simp only [add_assoc, add_zero]
  · rw [dif_neg h0, dif_pos (by omega), key {⟨2 * x.val, by omega⟩, ⟨2 * x.val + 1, by omega⟩, ⟨2 * x.val + 2, by omega⟩}
      (by intro X hX; simp only [Finset.mem_insert, Finset.mem_singleton, not_or, Fin.ext_iff] at hX; omega)]
    rw [Finset.sum_insert (by simp [Fin.ext_iff]), Finset.sum_insert (by simp [Fin.ext_iff]), Finset.sum_singleton]
    simp only [add_assoc, zero_add]

theorem triD_zero (x : Fin 16) (X : Fin 32) (h : X.val + 1 < 2 * x.val ∨ 2 * x.val + 2 < X.val) : wD x X = 0 := by
  have : triD x X = 0 := by revert x X; decide +kernel
  rw [wD, this]; simp

theorem triD_val : ∀ x : Fin 16, (∀ h0 : 0 < x.val, triD x ⟨2 * x.val - 1, by omega⟩ = 1) ∧ triD x ⟨2 * x.val, by omega⟩ = 3
    ∧ triD x ⟨2 * x.val + 1, by omega⟩ = 3 ∧ (∀ h1 : x.val < 15, triD x ⟨2 * x.val + 2, by omega⟩ = 1) := by decide +kernel

/-- The factor at coarse place `x`. -/
def rn (x : Fin 16) : EReal := if x.val = 0 ∨ x.val = 15 then ((8 / 7 : ℝ) : EReal) else 1

theorem rn_mul (x : Fin 16) (a : ℝ) : ((a : ℝ) : EReal) * rn x = ((8 * a / sumD x : ℝ) : EReal) := by
  unfold rn sumD
  split
  · rw [← EReal.coe_mul]; congr 1; push_cast; ring
  · rw [mul_one]; congr 1; push_cast; ring

/-- Fine to coarse along one coordinate, as four taps and a factor. -/
theorem down_taps (f : Fin 32 → EReal) (x : Fin 16) :
    ∑ X, (wD x X : EReal) * f X
      = (((1 / 8 : ℝ) : EReal) * (if h0 : 0 < x.val then f ⟨2 * x.val - 1, by omega⟩ else 0) + ((3 / 8 : ℝ) : EReal) * f ⟨2 * x.val, by omega⟩
        + ((3 / 8 : ℝ) : EReal) * f ⟨2 * x.val + 1, by omega⟩ + ((1 / 8 : ℝ) : EReal) * (if h1 : x.val < 15 then f ⟨2 * x.val + 2, by omega⟩ else 0)) * rn x := by
  rw [sum_four _ x (fun X hX => by rw [triD_zero x X hX]; simp)]
  have hr : ∃ r : ℝ, 0 ≤ r ∧ rn x = (r : EReal) ∧ ∀ a : ℝ, a * r = 8 * a / sumD x := by
    unfold rn sumD
    split
    · exact ⟨8 / 7, by norm_num, rfl, fun a => by push_cast; ring⟩
    · exact ⟨1, by norm_num, rfl, fun a => by push_cast; ring⟩
  obtain ⟨r, hr0, hr1, hr2⟩ := hr
  rw [hr1, mul_comm _ (r : EReal), mul_add' hr0, mul_add' hr0, mul_add' hr0]
  simp only [← mul_assoc, ← EReal.coe_mul]
  obtain ⟨v0, v1, v2, v3⟩ := triD_val x
  have e1 : ∀ X : Fin 32, triD x X = 1 → wD x X = r * (1 / 8) := fun X h => by rw [wD, h, mul_comm, hr2]; norm_num
  have e3 : ∀ X : Fin 32, triD x X = 3 → wD x X = r * (3 / 8) := fun X h => by rw [wD, h, mul_comm, hr2]; norm_num
  rw [e3 _ v1, e3 _ v2]
  congr 1
  · congr 2
    split
    · rename_i h; rw [e1 _ (v0 h)]
    · rw [mul_zero]
  · split
    · rename_i h; rw [e1 _ (v3 h)]
    · rw [mul_zero]

/-- The coarse neighbour a fine place looks at. -/
def near (X : Fin 32) : Fin 16 := if X.val % 2 = 0 then cl (half X) 1 else cl (half X) 3

theorem wU_zero (X : Fin 32) (x : Fin 16) (h : x ≠ half X ∧ x ≠ near X) : wU X x = 0 := by
  have : triU X x = 0 := by revert X x; decide +kernel
  rw [wU, this]; simp

theorem triU_val : ∀ X : Fin 32, (near X ≠ half X → triU X (half X) = 3 ∧ triU X (near X) = 1 ∧ sumU X = 4) ∧ (near X = half X → triU X (half X) = 3 ∧ sumU X = 3) := by
  decide +kernel

/-- Coarse to fine along one coordinate, as three quarters and one quarter. -/
theorem up_mix (f : Fin 16 → EReal) (X : Fin 32) :
    ∑ x, (wU X x : EReal) * f x = ((3 / 4 : ℝ) : EReal) * f (half X) + ((1 / 4 : ℝ) : EReal) * f (near X) := by
  rw [← Finset.sum_subset (Finset.subset_univ {half X, near X}) (fun x _ hx => by
    rw [wU_zero X x (by simpa using hx)]; simp)]
  by_cases h : near X = half X
  · obtain ⟨h1, h2⟩ := (triU_val X).2 h
    rw [h, Finset.pair_eq_singleton, Finset.sum_singleton, wU, h1, h2, ← EReal.right_distrib_of_nonneg (by norm_num) (by norm_num), ← EReal.coe_add]
    norm_num
  · obtain ⟨h1, h2, h3⟩ := (triU_val X).1 h
    rw [Finset.sum_pair (Ne.symm h), wU, wU, h1, h2, h3]
    norm_num

/-- The radius resized: the order of the coordinates does not matter. -/
theorem up_comm (s : Fin 16 → Fin 16 → Fin 16 → EReal) (X Y Z : Fin 32) :
    ∑ z, (∑ y, (wU Y y : EReal) * ∑ x, (wU X x : EReal) * s x y z) * (wU Z z : EReal)
      = ∑ x, (wU X x : EReal) * ∑ z, (wU Z z : EReal) * ∑ y, (wU Y y : EReal) * s x y z := by
  have hL : ∀ z, (∑ y, (wU Y y : EReal) * ∑ x, (wU X x : EReal) * s x y z) * (wU Z z : EReal)
      = ∑ x, ∑ y, (wU X x : EReal) * ((wU Z z : EReal) * ((wU Y y : EReal) * s x y z)) := fun z => by
    rw [mul_comm, mul_sum _ (wU_nonneg Z z), Finset.sum_comm]
    refine Finset.sum_congr rfl fun y _ => ?_
    rw [mul_sum _ (wU_nonneg Y y), mul_sum _ (wU_nonneg Z z)]
    refine Finset.sum_congr rfl fun x _ => ?_
    ac_rfl
  rw [Finset.sum_congr rfl fun z _ => hL z, Finset.sum_comm]
  refine Finset.sum_congr rfl fun x _ => ?_
  rw [mul_sum _ (wU_nonneg X x)]
  refine Finset.sum_congr rfl fun z _ => ?_
  rw [mul_sum _ (wU_nonneg Z z), mul_sum _ (wU_nonneg X x)]

end Cert.Proof
end
-- ==== Proof.Spec.lean ====
/- What both programs compute at one place of the result, over extended reals: the masked log weights of the offsets, their
   largest, and the weighted mean of the features. -/
module

public import proofs.«01_k».proof.Proof.Math

@[expose] public section

set_option maxRecDepth 16384

noncomputable section

namespace Cert.Proof

open Idealize.ShloMosaic

/-- The arguments, read by coordinates: features, guide, the four raw maps. -/
structure Args where
  feat : Fin 32 → Fin 16 → Fin 16 → Fin 16 → EReal
  guide : Fin 3 → Fin 32 → Fin 32 → Fin 32 → EReal
  raw : Fin 4 → Fin 16 → Fin 16 → Fin 16 → EReal

variable (I : Args)

/-- The guide at low resolution. -/
def low (g : Fin 3) (x y z : Fin 16) : EReal :=
  ∑ Z, (∑ Y, (wD y Y : EReal) * ∑ X, (wD x X : EReal) * I.guide g X Y Z) * (wD z Z : EReal)

/-- The widest spatial width, and the same at full resolution. -/
def wide (x y z : Fin 16) : EReal := max (Ideal.exp (I.raw 0 x y z)) (max (Ideal.exp (I.raw 1 x y z)) (Ideal.exp (I.raw 2 x y z)))
def reach (X Y Z : Fin 32) : EReal :=
  ∑ z, (∑ y, (wU Y y : EReal) * ∑ x, (wU X x : EReal) * wide I x y z) * (wU Z z : EReal)

/-- Twice a squared width, kept from zero. -/
def twoSq (r : EReal) : EReal := ((2 : ℝ) : EReal) * (max (Ideal.exp r) eps * max (Ideal.exp r) eps)

theorem twoSq_pos (r : EReal) : 0 < twoSq r := by
  have h : 0 < max (Ideal.exp r) eps := lt_max_of_lt_right eps_pos
  exact EReal.mul_pos (by norm_num) (EReal.mul_pos h h)

theorem twoSq_del_pos (r : EReal) : 0 < twoSq r + del := by
  exact lt_of_lt_of_le (twoSq_pos r) (le_add_of_nonneg_right del_pos.le)

/-- The distance to the place an offset reaches, and its square. -/
def dst (X : Fin 32) (d : Fin 5) : ℝ := ((2 * (X.val : ℤ) - 4 * (cl (half X) d).val - 1 : ℤ) : ℝ) / 2

/-- The squared guide differences of an offset. -/
def gdiff (X Y Z : Fin 32) (x y z : Fin 16) (g : Fin 3) : EReal := I.guide g X Y Z - low I g x y z
def gsq (X Y Z : Fin 32) (x y z : Fin 16) : EReal :=
  gdiff I X Y Z x y z 0 * gdiff I X Y Z x y z 0 + gdiff I X Y Z x y z 1 * gdiff I X Y Z x y z 1 + gdiff I X Y Z x y z 2 * gdiff I X Y Z x y z 2

/-- The log weight of an offset whose coordinates are `a - 2`, `b - 2`, `c - 2`. -/
def logw (X Y Z : Fin 32) (a b c : Fin 5) : EReal :=
  let x := cl (half X) a; let y := cl (half Y) b; let z := cl (half Z) c
  Ideal.div (-((dst X a : EReal) * dst X a)) (twoSq (I.raw 0 x y z)) - Ideal.div ((dst Y b : EReal) * dst Y b) (twoSq (I.raw 1 x y z))
      - Ideal.div ((dst Z c : EReal) * dst Z c) (twoSq (I.raw 2 x y z))
    + Ideal.div (-(gsq I X Y Z x y z)) (twoSq (I.raw 3 x y z) + del)

/-- An offset's squared length. -/
def len (a b c : Fin 5) : ℤ := ((a.val : ℤ) - 2) * (a.val - 2) + ((b.val : ℤ) - 2) * (b.val - 2) + ((c.val : ℤ) - 2) * (c.val - 2)

/-- Whether the radius reaches an offset. -/
def keep (X Y Z : Fin 32) (a b c : Fin 5) : Prop := len a b c ≤ 1 ∨ len a b c ≤ 4 ∧ ((1 / 2 : ℝ) : EReal) < reach I X Y Z

open Classical in
/-- The masked log weight. -/
def mlog (X Y Z : Fin 32) (a b c : Fin 5) : EReal := if keep I X Y Z a b c then logw I X Y Z a b c else ⊥

/-- The digits of an offset's number among all 125. -/
def dA (j : Fin 125) : Fin 5 := ⟨j.val / 25, by omega⟩
def dB (j : Fin 125) : Fin 5 := ⟨j.val / 5 % 5, by omega⟩
def dC (j : Fin 125) : Fin 5 := ⟨j.val % 5, by omega⟩

/-- The masked log weight of offset `j`, and the largest of all. -/
def T (X Y Z : Fin 32) (j : Fin 125) : EReal := mlog I X Y Z (dA j) (dB j) (dC j)
def top (X Y Z : Fin 32) : EReal := Finset.univ.sup (T I X Y Z)
def ew (X Y Z : Fin 32) (j : Fin 125) : EReal := Ideal.exp (T I X Y Z j - top I X Y Z)

/-- The result at one place. -/
def result (ch : Fin 32) (X Y Z : Fin 32) : EReal :=
  Ideal.div (∑ j, ew I X Y Z j * I.feat ch (cl (half X) (dA j)) (cl (half Y) (dB j)) (cl (half Z) (dC j))) (max (∑ j, ew I X Y Z j) del)

/-! ## The radius test -/

theorem keep_iff (N : ℤ) (s : EReal) :
    (((N : ℝ) : EReal) ≤ min ((2 : ℝ) : EReal) (max ((1 : ℝ) : EReal) (Ideal.liftRound Int.ceil (((2 : ℝ) : EReal) * s)))
        * min ((2 : ℝ) : EReal) (max ((1 : ℝ) : EReal) (Ideal.liftRound Int.ceil (((2 : ℝ) : EReal) * s))))
      ↔ N ≤ 1 ∨ N ≤ 4 ∧ ((1 / 2 : ℝ) : EReal) < s := by
  have one : ∀ R : EReal, R = ((1 : ℝ) : EReal) → ((((N : ℝ) : EReal) ≤ R * R) ↔ N ≤ 1) := fun R h => by
    rw [h, ← EReal.coe_mul, EReal.coe_le_coe_iff, mul_one]; exact_mod_cast Iff.rfl
  have two : ∀ R : EReal, R = ((2 : ℝ) : EReal) → ((((N : ℝ) : EReal) ≤ R * R) ↔ N ≤ 4) := fun R h => by
    rw [h, ← EReal.coe_mul, EReal.coe_le_coe_iff, show (2 : ℝ) * 2 = ((4 : ℤ) : ℝ) by norm_num]; exact_mod_cast Iff.rfl
  induction s with
  | bot =>
    rw [one _ (by
      rw [EReal.coe_mul_bot_of_pos (by norm_num)]
      show min ((2 : ℝ) : EReal) (max ((1 : ℝ) : EReal) ⊥) = _
      rw [max_eq_left bot_le, min_eq_right (by exact_mod_cast (by norm_num : (1 : ℝ) ≤ 2))])]
    simp
  | top =>
    rw [two _ (by
      rw [EReal.coe_mul_top_of_pos (by norm_num)]
      show min ((2 : ℝ) : EReal) (max ((1 : ℝ) : EReal) ⊤) = _
      rw [max_eq_right le_top, min_eq_left le_top])]
    have : ((1 / 2 : ℝ) : EReal) < ⊤ := EReal.coe_lt_top _
    simp only [this, and_true]
    omega
  | coe s =>
    rw [← EReal.coe_mul]
    show (_ ≤ min ((2 : ℝ) : EReal) (max ((1 : ℝ) : EReal) (((⌈2 * s⌉ : ℤ) : ℝ) : EReal)) * min ((2 : ℝ) : EReal) (max ((1 : ℝ) : EReal) (((⌈2 * s⌉ : ℤ) : ℝ) : EReal))) ↔ _
    by_cases h : 1 / 2 < s
    · have hc : (2 : ℤ) ≤ ⌈2 * s⌉ := by
        have : (1 : ℤ) < ⌈2 * s⌉ := Int.lt_ceil.mpr (by push_cast; linarith)
        omega
      have hc' : ((2 : ℝ) : EReal) ≤ (((⌈2 * s⌉ : ℤ) : ℝ) : EReal) := by
        rw [EReal.coe_le_coe_iff]; exact_mod_cast hc
      rw [two _ (min_eq_left (le_max_of_le_right hc'))]
      have : ((1 / 2 : ℝ) : EReal) < (s : EReal) := by rw [EReal.coe_lt_coe_iff]; exact h
      simp only [this, and_true]
      omega
    · have hc : ⌈2 * s⌉ ≤ (1 : ℤ) := Int.ceil_le.mpr (by push_cast; linarith)
      have hc' : (((⌈2 * s⌉ : ℤ) : ℝ) : EReal) ≤ ((1 : ℝ) : EReal) := by
        rw [EReal.coe_le_coe_iff]; exact_mod_cast hc
      rw [one _ (by rw [max_eq_left hc', min_eq_right (by exact_mod_cast (by norm_num : (1 : ℝ) ≤ 2))])]
      have : ¬ ((1 / 2 : ℝ) : EReal) < (s : EReal) := by rw [EReal.coe_lt_coe_iff]; exact h
      simp only [this, and_false, or_false]

/-! ## The kernel's spelling of the log weight -/

theorem logw_eq (p q r E d0 d1 d2 d3 : EReal) (u v w : ℝ) (hp : p = (u : EReal)) (hq : q = (v : EReal)) (hr : r = (w : EReal))
    (h0 : 0 < d0) (h1 : 0 < d1) (h2 : 0 < d2) (h3 : 0 < d3) :
    (0 - (p * Ideal.div 1 d0 + q * Ideal.div 1 d1 + r * Ideal.div 1 d2)) - E * Ideal.div 1 d3
      = Ideal.div (-p) d0 - Ideal.div q d1 - Ideal.div r d2 + Ideal.div (-E) d3 := by
  obtain ⟨e0, _, i0⟩ := inv_real h0
  obtain ⟨e1, _, i1⟩ := inv_real h1
  obtain ⟨e2, _, i2⟩ := inv_real h2
  simp only [div_pos h0, div_pos h1, div_pos h2, div_pos h3, one_mul, i0, i1, i2, hp, hq, hr, EReal.neg_mul]
  rw [sub_eq_add_neg (0 - _)]
  congr 1
  rw [← EReal.coe_zero]
  simp only [← EReal.coe_mul, ← EReal.coe_neg, ← EReal.coe_add, ← EReal.coe_sub]
  congr 1
  ring

end Cert.Proof
end
-- ==== Proof.KShift.lean ====
/- The kernel's shifts and paddings read at an index: which row and lane each one looks at. -/
module

public import proofs.«01_k».proof.Proof.KOut
public import proofs.«01_k».proof.Proof.Spec

@[expose] public section

set_option maxRecDepth 16384

noncomputable section

namespace Cert.Proof

open Cert.KernelIdeal Cert.KernelIdeal.Gen Idealize.ShloMosaic Idealize.ShloMosaic.Pointwise

/-! ## Lanes -/

/-- The coarse and fine coordinates of a lane. -/
def kyL (l : Fin 1024) : Fin 16 := ⟨l.val / 64, by omega⟩
def kzL (l : Fin 1024) : Fin 16 := ⟨l.val / 2 % 16, by omega⟩
def yL (l : Fin 1024) : Fin 32 := ⟨l.val / 32, by omega⟩
def zL (l : Fin 1024) : Fin 32 := ⟨l.val % 32, by omega⟩
/-- The lane at fine coordinates, and a lane with its coarse coordinates replaced. -/
def lane (Y Z : Fin 32) : Fin 1024 := ⟨32 * Y.val + Z.val, by omega⟩
def mk (y z : Fin 16) (l : Fin 1024) : Fin 1024 := ⟨64 * y.val + l.val / 32 % 2 * 32 + 2 * z.val + l.val % 2, by omega⟩

theorem half_yL (l : Fin 1024) : half (yL l) = kyL l := Fin.ext (by show l.val / 32 / 2 = l.val / 64; omega)
theorem half_zL (l : Fin 1024) : half (zL l) = kzL l := Fin.ext (by show l.val % 32 / 2 = l.val / 2 % 16; omega)
theorem kyL_mk (y z : Fin 16) (l : Fin 1024) : kyL (mk y z l) = y :=
  Fin.ext (by show (64 * y.val + l.val / 32 % 2 * 32 + 2 * z.val + l.val % 2) / 64 = y.val; omega)
theorem kzL_mk (y z : Fin 16) (l : Fin 1024) : kzL (mk y z l) = z :=
  Fin.ext (by show (64 * y.val + l.val / 32 % 2 * 32 + 2 * z.val + l.val % 2) / 2 % 16 = z.val; omega)
theorem mk_mk (y z y' z' : Fin 16) (l : Fin 1024) : mk y z (mk y' z' l) = mk y z l :=
  Fin.ext (by
    show 64 * y.val + (64 * y'.val + l.val / 32 % 2 * 32 + 2 * z'.val + l.val % 2) / 32 % 2 * 32 + 2 * z.val + (64 * y'.val + l.val / 32 % 2 * 32 + 2 * z'.val + l.val % 2) % 2
      = 64 * y.val + l.val / 32 % 2 * 32 + 2 * z.val + l.val % 2
    omega)
theorem yL_mk (z : Fin 16) (l : Fin 1024) : yL (mk (kyL l) z l) = yL l :=
  Fin.ext (by show (64 * (l.val / 64) + l.val / 32 % 2 * 32 + 2 * z.val + l.val % 2) / 32 = l.val / 32; omega)
theorem yL_lane (Y Z : Fin 32) : yL (lane Y Z) = Y := Fin.ext (by show (32 * Y.val + Z.val) / 32 = Y.val; omega)
theorem zL_lane (Y Z : Fin 32) : zL (lane Y Z) = Z := Fin.ext (by show (32 * Y.val + Z.val) % 32 = Z.val; omega)
theorem lane_self (l : Fin 1024) : lane (yL l) (zL l) = l := Fin.ext (by show 32 * (l.val / 32) + l.val % 32 = l.val; omega)

theorem sel {α : Type} {w : BitVec 1} {P : Prop} [Decidable P] (h : w = 1#1 ↔ P) (a b : α) : Scalar.select w a b = if P then a else b := by
  show (if w = 1#1 then a else b) = _
  by_cases hp : P
  · rw [if_pos hp, if_pos (h.mpr hp)]
  · rw [if_neg hp, if_neg (fun hw => hp (h.mp hw))]

theorem w_kz0 : ∀ l : Fin 1024, IntOp.cmpi CmpIPredicate.eq (IntOp.andi (IntOp.shrsi ArithUnit.vector (BitVec.ofNat 32 l.val) 1#32) 15#32) 0#32 = 1#1 ↔ l.val / 2 % 16 = 0 := by decide +kernel
theorem w_kz1 : ∀ l : Fin 1024, IntOp.cmpi CmpIPredicate.eq (IntOp.andi (IntOp.shrsi ArithUnit.vector (BitVec.ofNat 32 l.val) 1#32) 15#32) 1#32 = 1#1 ↔ l.val / 2 % 16 = 1 := by decide +kernel
theorem w_kz14 : ∀ l : Fin 1024, IntOp.cmpi CmpIPredicate.eq (IntOp.andi (IntOp.shrsi ArithUnit.vector (BitVec.ofNat 32 l.val) 1#32) 15#32) 14#32 = 1#1 ↔ l.val / 2 % 16 = 14 := by decide +kernel
theorem w_kz15 : ∀ l : Fin 1024, IntOp.cmpi CmpIPredicate.eq (IntOp.andi (IntOp.shrsi ArithUnit.vector (BitVec.ofNat 32 l.val) 1#32) 15#32) 15#32 = 1#1 ↔ l.val / 2 % 16 = 15 := by decide +kernel
theorem w_py : ∀ l : Fin 1024, IntOp.cmpi CmpIPredicate.eq (IntOp.andi (IntOp.shrsi ArithUnit.vector (BitVec.ofNat 32 l.val) 5#32) 1#32) 0#32 = 1#1 ↔ l.val / 32 % 2 = 0 := by decide +kernel
theorem w_pz : ∀ l : Fin 1024, IntOp.cmpi CmpIPredicate.eq (IntOp.andi (BitVec.ofNat 32 l.val) 1#32) 0#32 = 1#1 ↔ l.val % 2 = 0 := by decide +kernel

/-! ## Clamped shifts -/

theorem zsh_at (d : Fin 5) (v : Vec Ideal S16x1024 .f32) (r : Fin 16) (l : Fin 1024) : zsh d v (ix2 r l) = v (ix2 r (mk (kyL l) (cl (kzL l) d) l)) := by
  have go : ∀ k : Fin 1024, k.val = 64 * (l.val / 64) + l.val / 32 % 2 * 32 + 2 * min (l.val / 2 % 16 + d.val - 2) 15 + l.val % 2 → v (ix2 r k) = v (ix2 r (mk (kyL l) (cl (kzL l) d) l)) :=
    fun k hk => congrArg (fun k => v (ix2 r k)) (Fin.ext hk)
  match d with
  | 0 =>
    pointwise [zsh, kzV, laneV]
    rw [sel (w_kz0 l), sel (w_kz1 l)]
    split_ifs <;> refine go _ ?_ <;> (try simp only [Fin.val_zero]) <;> omega
  | 1 =>
    pointwise [zsh, kzV, laneV]
    rw [sel (w_kz0 l)]
    split_ifs <;> refine go _ ?_ <;> (try simp only [Fin.val_one]) <;> omega
  | 2 => exact go _ (by show l.val = 64 * (l.val / 64) + l.val / 32 % 2 * 32 + 2 * min (l.val / 2 % 16 + 2 - 2) 15 + l.val % 2; omega)
  | 3 =>
    pointwise [zsh, kzV, laneV]
    rw [sel (w_kz15 l)]
    split_ifs <;> refine go _ ?_ <;> show _ = 64 * (l.val / 64) + l.val / 32 % 2 * 32 + 2 * min (l.val / 2 % 16 + 3 - 2) 15 + l.val % 2 <;> (try simp only) <;> omega
  | 4 =>
    pointwise [zsh, kzV, laneV]
    rw [sel (w_kz15 l), sel (w_kz14 l)]
    split_ifs <;> refine go _ ?_ <;> show _ = 64 * (l.val / 64) + l.val / 32 % 2 * 32 + 2 * min (l.val / 2 % 16 + 4 - 2) 15 + l.val % 2 <;> (try simp only) <;> omega

theorem ysh_at (d : Fin 5) (v : Vec Ideal S20x1024 .f32) (r : Fin 20) (l : Fin 1024) : ysh d v (ix2 r l) = v (ix2 r (mk (cl (kyL l) d) (kzL l) l)) := by
  have go : ∀ k : Fin 1024, k.val = 64 * min (l.val / 64 + d.val - 2) 15 + l.val / 32 % 2 * 32 + 2 * (l.val / 2 % 16) + l.val % 2 → v (ix2 r k) = v (ix2 r (mk (cl (kyL l) d) (kzL l) l)) :=
    fun k hk => congrArg (fun k => v (ix2 r k)) (Fin.ext hk)
  match d with
  | 0 =>
    pointwise [ysh]
    split_ifs <;> refine go _ ?_ <;> show _ = 64 * min (l.val / 64 + 0 - 2) 15 + l.val / 32 % 2 * 32 + 2 * (l.val / 2 % 16) + l.val % 2 <;> (try simp only) <;> omega
  | 1 =>
    pointwise [ysh]
    split_ifs <;> refine go _ ?_ <;> show _ = 64 * min (l.val / 64 + 1 - 2) 15 + l.val / 32 % 2 * 32 + 2 * (l.val / 2 % 16) + l.val % 2 <;> (try simp only) <;> omega
  | 2 => exact go _ (by show l.val = 64 * min (l.val / 64 + 2 - 2) 15 + l.val / 32 % 2 * 32 + 2 * (l.val / 2 % 16) + l.val % 2; omega)
  | 3 =>
    pointwise [ysh]
    split_ifs <;> refine go _ ?_ <;> show _ = 64 * min (l.val / 64 + 3 - 2) 15 + l.val / 32 % 2 * 32 + 2 * (l.val / 2 % 16) + l.val % 2 <;> (try simp only) <;> omega
  | 4 =>
    pointwise [ysh]
    split_ifs <;> refine go _ ?_ <;> show _ = 64 * min (l.val / 64 + 4 - 2) 15 + l.val / 32 % 2 * 32 + 2 * (l.val / 2 % 16) + l.val % 2 <;> (try simp only) <;> omega

theorem rows_at (d : Fin 5) (v : Vec Ideal S20x1024 .f32) (r : Fin 16) (l : Fin 1024) : rows d v (ix2 r l) = v (ix2 ⟨r.val + d.val, by omega⟩ l) := by
  have go : ∀ (d : Fin 5) (k : Fin 20), k.val = r.val + d.val → v (ix2 k l) = v (ix2 ⟨r.val + d.val, by omega⟩ l) :=
    fun d k hk => congrArg (fun k => v (ix2 k l)) (Fin.ext hk)
  match d with
  | 0 => pointwise [rows]
  | 1 => pointwise [rows]; exact go 1 ⟨1 + r.val, by omega⟩ (Nat.add_comm 1 r.val)
  | 2 => pointwise [rows]; exact go 2 ⟨2 + r.val, by omega⟩ (Nat.add_comm 2 r.val)
  | 3 => pointwise [rows]; exact go 3 ⟨3 + r.val, by omega⟩ (Nat.add_comm 3 r.val)
  | 4 => pointwise [rows]; exact go 4 ⟨4 + r.val, by omega⟩ (Nat.add_comm 4 r.val)

theorem pad_at (v : Vec Ideal S16x1024 .f32) (r : Fin 16) (d : Fin 5) (h : r.val + d.val < 20) (l : Fin 1024) : pad v (ix2 ⟨r.val + d.val, h⟩ l) = v (ix2 (cl r d) l) := by
  have go : ∀ k : Fin 16, k.val = min (r.val + d.val - 2) 15 → v (ix2 k l) = v (ix2 (cl r d) l) :=
    fun k hk => congrArg (fun k => v (ix2 k l)) (Fin.ext hk)
  pointwise [pad]
  split_ifs <;> refine go _ ?_ <;> (try simp only) <;> omega

/-- A map shifted along all three coordinates. -/
theorem shift_at (a b c : Fin 5) (v : Vec Ideal S16x1024 .f32) (r : Fin 16) (l : Fin 1024) :
    rows a (ysh b (pad (zsh c v))) (ix2 r l) = v (ix2 (cl r a) (mk (cl (kyL l) b) (cl (kzL l) c) l)) := by
  rw [rows_at, ysh_at, pad_at, zsh_at, kyL_mk, kzL_mk, mk_mk]

/-! ## The same for the features -/

theorem zshF_at (d : Fin 5) (v : Vec Ideal S32x16x1024 .f32) (ch : Fin 32) (r : Fin 16) (l : Fin 1024) : zshF d v (ix3 ch r l) = v (ix3 ch r (mk (kyL l) (cl (kzL l) d) l)) := by
  have go : ∀ k : Fin 1024, k.val = 64 * (l.val / 64) + l.val / 32 % 2 * 32 + 2 * min (l.val / 2 % 16 + d.val - 2) 15 + l.val % 2 → v (ix3 ch r k) = v (ix3 ch r (mk (kyL l) (cl (kzL l) d) l)) :=
    fun k hk => congrArg (fun k => v (ix3 ch r k)) (Fin.ext hk)
  match d with
  | 0 =>
    pointwise [zshF, kzF]
    rw [sel (w_kz0 l), sel (w_kz1 l)]
    split_ifs <;> refine go _ ?_ <;> show _ = 64 * (l.val / 64) + l.val / 32 % 2 * 32 + 2 * min (l.val / 2 % 16 + 0 - 2) 15 + l.val % 2 <;> (try simp only) <;> omega
  | 1 =>
    pointwise [zshF, kzF]
    rw [sel (w_kz0 l)]
    split_ifs <;> refine go _ ?_ <;> show _ = 64 * (l.val / 64) + l.val / 32 % 2 * 32 + 2 * min (l.val / 2 % 16 + 1 - 2) 15 + l.val % 2 <;> (try simp only) <;> omega
  | 2 => exact go _ (by show l.val = 64 * (l.val / 64) + l.val / 32 % 2 * 32 + 2 * min (l.val / 2 % 16 + 2 - 2) 15 + l.val % 2; omega)
  | 3 =>
    pointwise [zshF, kzF]
    rw [sel (w_kz15 l)]
    split_ifs <;> refine go _ ?_ <;> show _ = 64 * (l.val / 64) + l.val / 32 % 2 * 32 + 2 * min (l.val / 2 % 16 + 3 - 2) 15 + l.val % 2 <;> (try simp only) <;> omega
  | 4 =>
    pointwise [zshF, kzF]
    rw [sel (w_kz15 l), sel (w_kz14 l)]
    split_ifs <;> refine go _ ?_ <;> show _ = 64 * (l.val / 64) + l.val / 32 % 2 * 32 + 2 * min (l.val / 2 % 16 + 4 - 2) 15 + l.val % 2 <;> (try simp only) <;> omega

theorem yshF_at (d : Fin 5) (v : Vec Ideal S4x20x1024 .f32) (i : Fin 4) (r : Fin 20) (l : Fin 1024) : yshF d v (ix3 i r l) = v (ix3 i r (mk (cl (kyL l) d) (kzL l) l)) := by
  have go : ∀ k : Fin 1024, k.val = 64 * min (l.val / 64 + d.val - 2) 15 + l.val / 32 % 2 * 32 + 2 * (l.val / 2 % 16) + l.val % 2 → v (ix3 i r k) = v (ix3 i r (mk (cl (kyL l) d) (kzL l) l)) :=
    fun k hk => congrArg (fun k => v (ix3 i r k)) (Fin.ext hk)
  match d with
  | 0 =>
    pointwise [yshF]
    split_ifs <;> refine go _ ?_ <;> show _ = 64 * min (l.val / 64 + 0 - 2) 15 + l.val / 32 % 2 * 32 + 2 * (l.val / 2 % 16) + l.val % 2 <;> (try simp only) <;> omega
  | 1 =>
    pointwise [yshF]
    split_ifs <;> refine go _ ?_ <;> show _ = 64 * min (l.val / 64 + 1 - 2) 15 + l.val / 32 % 2 * 32 + 2 * (l.val / 2 % 16) + l.val % 2 <;> (try simp only) <;> omega
  | 2 => exact go _ (by show l.val = 64 * min (l.val / 64 + 2 - 2) 15 + l.val / 32 % 2 * 32 + 2 * (l.val / 2 % 16) + l.val % 2; omega)
  | 3 =>
    pointwise [yshF]
    split_ifs <;> refine go _ ?_ <;> show _ = 64 * min (l.val / 64 + 3 - 2) 15 + l.val / 32 % 2 * 32 + 2 * (l.val / 2 % 16) + l.val % 2 <;> (try simp only) <;> omega
  | 4 =>
    pointwise [yshF]
    split_ifs <;> refine go _ ?_ <;> show _ = 64 * min (l.val / 64 + 4 - 2) 15 + l.val / 32 % 2 * 32 + 2 * (l.val / 2 % 16) + l.val % 2 <;> (try simp only) <;> omega

theorem rowsF_at (d : Fin 5) (v : Vec Ideal S4x20x1024 .f32) (i : Fin 4) (r : Fin 16) (l : Fin 1024) : rowsF d v (ix3 i r l) = v (ix3 i ⟨r.val + d.val, by omega⟩ l) := by
  have go : ∀ (d : Fin 5) (k : Fin 20), k.val = r.val + d.val → v (ix3 i k l) = v (ix3 i ⟨r.val + d.val, by omega⟩ l) :=
    fun d k hk => congrArg (fun k => v (ix3 i k l)) (Fin.ext hk)
  match d with
  | 0 => pointwise [rowsF]
  | 1 => pointwise [rowsF]; exact go 1 ⟨1 + r.val, by omega⟩ (Nat.add_comm 1 r.val)
  | 2 => pointwise [rowsF]; exact go 2 ⟨2 + r.val, by omega⟩ (Nat.add_comm 2 r.val)
  | 3 => pointwise [rowsF]; exact go 3 ⟨3 + r.val, by omega⟩ (Nat.add_comm 3 r.val)
  | 4 => pointwise [rowsF]; exact go 4 ⟨4 + r.val, by omega⟩ (Nat.add_comm 4 r.val)

theorem padF_at (v : Vec Ideal S32x16x1024 .f32) (ch : Fin 32) (r : Fin 16) (d : Fin 5) (h : r.val + d.val < 20) (l : Fin 1024) : padF v (ix3 ch ⟨r.val + d.val, h⟩ l) = v (ix3 ch (cl r d) l) := by
  have go : ∀ k : Fin 16, k.val = min (r.val + d.val - 2) 15 → v (ix3 ch k l) = v (ix3 ch (cl r d) l) :=
    fun k hk => congrArg (fun k => v (ix3 ch k l)) (Fin.ext hk)
  pointwise [padF]
  split_ifs <;> refine go _ ?_ <;> (try simp only) <;> omega

end Cert.Proof
end
-- ==== Proof.KDown.lean ====
/- The kernel's two resizings read at an index: the guide brought to low resolution, the radius map to full. -/
module

public import proofs.«01_k».proof.Proof.KShift

@[expose] public section

set_option maxRecDepth 16384

noncomputable section

namespace Cert.Proof

open Cert.KernelIdeal Cert.KernelIdeal.Gen Idealize.ShloMosaic Idealize.ShloMosaic.Pointwise

/-! ## The guide at low resolution -/

theorem named_renorm : Named.named (F := Ideal) (φ := .f32) κ "renorm" 0x3F924925#32 = ((8 / 7 : ℝ) : EReal) :=
  IdealRules.named_const.ideal_named_scalar _ _ _ _ rfl

theorem w_end : ∀ q : Fin 16, IntOp.ori (IntOp.cmpi CmpIPredicate.eq (BitVec.ofNat 32 q.val) 0#32) (IntOp.cmpi CmpIPredicate.eq (BitVec.ofNat 32 q.val) 15#32) = 1#1 ↔ q.val = 0 ∨ q.val = 15 := by
  decide +kernel
theorem w_ky : ∀ l : Fin 1024, IntOp.shrsi ArithUnit.vector (BitVec.ofNat 32 l.val) 6#32 = BitVec.ofNat 32 (kyL l).val := by decide +kernel
theorem w_kz : ∀ l : Fin 1024, IntOp.andi (IntOp.shrsi ArithUnit.vector (BitVec.ofNat 32 l.val) 1#32) 15#32 = BitVec.ofNat 32 (kzL l).val := by decide +kernel

theorem renorm_at (q : IVec S16x1024 32) (k : Fin 16) (g : Fin 3) (r : Fin 16) (l : Fin 1024) (h : q (ix2 r l) = BitVec.ofNat 32 k.val) :
    renorm (F := Ideal) q (ix3 g r l) = rn k := by
  pointwise [renorm, kst]
  rw [h, sel (w_end k), named_renorm]
  rfl
theorem renorm_row (g : Fin 3) (r : Fin 16) (l : Fin 1024) : renorm (F := Ideal) rowV (ix3 g r l) = rn r :=
  renorm_at _ _ _ _ _ (by pointwise [rowV])
theorem renorm_ky (g : Fin 3) (r : Fin 16) (l : Fin 1024) : renorm (F := Ideal) kyV (ix3 g r l) = rn (kyL l) :=
  renorm_at _ _ _ _ _ (by pointwise [kyV, laneV]; exact w_ky l)
theorem renorm_kz (g : Fin 3) (r : Fin 16) (l : Fin 1024) : renorm (F := Ideal) kzV (ix3 g r l) = rn (kzL l) :=
  renorm_at _ _ _ _ _ (by pointwise [kzV, laneV]; exact w_kz l)

theorem downX_at (g0 g1 : Vec Ideal S3x16x1024 .f32) (g : Fin 3) (r : Fin 16) (l : Fin 1024) (f : Fin 32 → EReal)
    (h0 : ∀ x : Fin 16, g0 (ix3 g x l) = f ⟨2 * x.val, by omega⟩) (h1 : ∀ x : Fin 16, g1 (ix3 g x l) = f ⟨2 * x.val + 1, by omega⟩) :
    downX g0 g1 (ix3 g r l) = ∑ X, (wD r X : EReal) * f X := by
  have hr : downX g0 g1 (ix3 g r l) = (Ideal.ofBits FTy.f32 1052770304#32 * (g0 (ix3 g r l) + g1 (ix3 g r l)) +
        Ideal.ofBits FTy.f32 1040187392#32 *
          ((if h : r.val < 1 then 0 else g1 (ix3 g ⟨r.val - 1, by omega⟩ l)) + if h : r.val < 15 then g0 (ix3 g ⟨1 + r.val, by omega⟩ l) else 0)) * renorm (F := Ideal) rowV (ix3 g r l) := by
    pointwise [downX, kst3]
  rw [hr, renorm_row, down_taps, c_eighth, c_threee, mul_add' (by norm_num), mul_add' (by norm_num)]
  congr 1
  have e1 : (if h : r.val < 1 then (0 : EReal) else g1 (ix3 g ⟨r.val - 1, by omega⟩ l)) = if h0 : 0 < r.val then f ⟨2 * r.val - 1, by omega⟩ else 0 := by
    split_ifs with h h' h'
    · omega
    · rfl
    · rw [h1]; exact congrArg f (Fin.ext (by show 2 * (r.val - 1) + 1 = 2 * r.val - 1; omega))
    · omega
  have e2 : (if h : r.val < 15 then g0 (ix3 g ⟨1 + r.val, by omega⟩ l) else (0 : EReal)) = if h1 : r.val < 15 then f ⟨2 * r.val + 2, by omega⟩ else 0 := by
    split_ifs with h
    · rw [h0]; exact congrArg f (Fin.ext (by show 2 * (1 + r.val) = 2 * r.val + 2; omega))
    · rfl
  rw [e1, e2, h0, h1]
  ac_rfl

/-- A vector read along Y at a place of the padded axis, nought off the axis. -/
def atY (v : Vec Ideal S3x16x1024 .f32) (g : Fin 3) (r : Fin 16) (l : Fin 1024) (n : ℕ) : EReal :=
  if h : 2 ≤ n ∧ n < 34 then v (ix3 g r (lane ⟨n - 2, by omega⟩ (zL l))) else 0
theorem atY_pos (v : Vec Ideal S3x16x1024 .f32) (g : Fin 3) (r : Fin 16) (l k : Fin 1024) (n : ℕ) (h : 2 ≤ n ∧ n < 34) (hk : k.val = 32 * (n - 2) + l.val % 32) :
    v (ix3 g r k) = atY v g r l n := by
  rw [atY, dif_pos h]; exact congrArg (fun k => v (ix3 g r k)) (Fin.ext hk)
theorem atY_neg (v : Vec Ideal S3x16x1024 .f32) (g : Fin 3) (r : Fin 16) (l : Fin 1024) (n : ℕ) (h : ¬(2 ≤ n ∧ n < 34)) : atY v g r l n = 0 := dif_neg h

theorem shY_at (d : Fin 5) (v : Vec Ideal S3x16x1024 .f32) (g : Fin 3) (r : Fin 16) (l : Fin 1024) :
    shY d v (ix3 g r l) = atY v g r l ((yL l).val + d.val) := by
  have hy : (yL l).val = l.val / 32 := rfl
  have pos := atY_pos v g r l
  have neg := atY_neg v g r l
  match d with
  | 0 =>
    pointwise [shY]
    by_cases h : l.val < 64
    · rw [dif_pos h]; exact (neg ((yL l).val + 0) (by omega)).symm
    · rw [dif_neg h]; exact pos ⟨l.val - 64, by omega⟩ ((yL l).val + 0) (by omega) (show l.val - 64 = 32 * ((yL l).val + 0 - 2) + l.val % 32 by omega)
  | 1 =>
    pointwise [shY]
    by_cases h : l.val < 32
    · rw [dif_pos h]; exact (neg ((yL l).val + 1) (by omega)).symm
    · rw [dif_neg h]; exact pos ⟨l.val - 32, by omega⟩ ((yL l).val + 1) (by omega) (show l.val - 32 = 32 * ((yL l).val + 1 - 2) + l.val % 32 by omega)
  | 2 => exact pos l ((yL l).val + 2) (by omega) (show l.val = 32 * ((yL l).val + 2 - 2) + l.val % 32 by omega)
  | 3 =>
    pointwise [shY]
    by_cases h : l.val < 992
    · rw [dif_pos h]; exact pos ⟨32 + l.val, by omega⟩ ((yL l).val + 3) (by omega) (show 32 + l.val = 32 * ((yL l).val + 3 - 2) + l.val % 32 by omega)
    · rw [dif_neg h]; exact (neg ((yL l).val + 3) (by omega)).symm
  | 4 =>
    pointwise [shY]
    by_cases h : l.val < 960
    · rw [dif_pos h]; exact pos ⟨64 + l.val, by omega⟩ ((yL l).val + 4) (by omega) (show 64 + l.val = 32 * ((yL l).val + 4 - 2) + l.val % 32 by omega)
    · rw [dif_neg h]; exact (neg ((yL l).val + 4) (by omega)).symm

theorem w_in0 : ∀ l : Fin 1024, IntOp.andi (IntOp.cmpi CmpIPredicate.sge (IntOp.addi (IntOp.andi (BitVec.ofNat 32 l.val) 31#32) 4294967294#32) 0#32)
    (IntOp.cmpi CmpIPredicate.sle (IntOp.addi (IntOp.andi (BitVec.ofNat 32 l.val) 31#32) 4294967294#32) 31#32) = 1#1 ↔ 2 ≤ (zL l).val + 0 ∧ (zL l).val + 0 < 34 := by decide +kernel
theorem w_in1 : ∀ l : Fin 1024, IntOp.andi (IntOp.cmpi CmpIPredicate.sge (IntOp.addi (IntOp.andi (BitVec.ofNat 32 l.val) 31#32) 4294967295#32) 0#32)
    (IntOp.cmpi CmpIPredicate.sle (IntOp.addi (IntOp.andi (BitVec.ofNat 32 l.val) 31#32) 4294967295#32) 31#32) = 1#1 ↔ 2 ≤ (zL l).val + 1 ∧ (zL l).val + 1 < 34 := by decide +kernel
theorem w_in3 : ∀ l : Fin 1024, IntOp.andi (IntOp.cmpi CmpIPredicate.sge (IntOp.addi (IntOp.andi (BitVec.ofNat 32 l.val) 31#32) 1#32) 0#32)
    (IntOp.cmpi CmpIPredicate.sle (IntOp.addi (IntOp.andi (BitVec.ofNat 32 l.val) 31#32) 1#32) 31#32) = 1#1 ↔ 2 ≤ (zL l).val + 3 ∧ (zL l).val + 3 < 34 := by decide +kernel
theorem w_in4 : ∀ l : Fin 1024, IntOp.andi (IntOp.cmpi CmpIPredicate.sge (IntOp.addi (IntOp.andi (BitVec.ofNat 32 l.val) 31#32) 2#32) 0#32)
    (IntOp.cmpi CmpIPredicate.sle (IntOp.addi (IntOp.andi (BitVec.ofNat 32 l.val) 31#32) 2#32) 31#32) = 1#1 ↔ 2 ≤ (zL l).val + 4 ∧ (zL l).val + 4 < 34 := by decide +kernel

/-- A vector read along Z at a place of the padded axis, nought off the axis. -/
def atZ (v : Vec Ideal S3x16x1024 .f32) (g : Fin 3) (r : Fin 16) (l : Fin 1024) (n : ℕ) : EReal :=
  if h : 2 ≤ n ∧ n < 34 then v (ix3 g r (lane (yL l) ⟨n - 2, by omega⟩)) else 0
theorem atZ_pos (v : Vec Ideal S3x16x1024 .f32) (g : Fin 3) (r : Fin 16) (l k : Fin 1024) (n : ℕ) (h : 2 ≤ n ∧ n < 34) (hk : k.val = 32 * (l.val / 32) + (n - 2)) :
    v (ix3 g r k) = atZ v g r l n := by
  rw [atZ, dif_pos h]; exact congrArg (fun k => v (ix3 g r k)) (Fin.ext hk)
theorem atZ_neg (v : Vec Ideal S3x16x1024 .f32) (g : Fin 3) (r : Fin 16) (l : Fin 1024) (n : ℕ) (h : ¬(2 ≤ n ∧ n < 34)) : atZ v g r l n = 0 := dif_neg h

theorem shZ_at (d : Fin 5) (v : Vec Ideal S3x16x1024 .f32) (g : Fin 3) (r : Fin 16) (l : Fin 1024) :
    shZ d v (ix3 g r l) = atZ v g r l ((zL l).val + d.val) := by
  have hz : (zL l).val = l.val % 32 := rfl
  have pos := atZ_pos v g r l
  have neg := atZ_neg v g r l
  match d with
  | 0 =>
    pointwise [shZ, inside, zzV, laneV, kst3]
    rw [sel (w_in0 l)]
    by_cases h : 2 ≤ (zL l).val + 0 ∧ (zL l).val + 0 < 34
    · rw [if_pos h, dif_neg (show ¬l.val < 2 by omega)]; exact pos ⟨l.val - 2, by omega⟩ ((zL l).val + 0) h (show l.val - 2 = 32 * (l.val / 32) + ((zL l).val + 0 - 2) by omega)
    · rw [if_neg h]; exact (neg ((zL l).val + 0) h).symm
  | 1 =>
    pointwise [shZ, inside, zzV, laneV, kst3]
    rw [sel (w_in1 l)]
    by_cases h : 2 ≤ (zL l).val + 1 ∧ (zL l).val + 1 < 34
    · rw [if_pos h, dif_neg (show ¬l.val < 1 by omega)]; exact pos ⟨l.val - 1, by omega⟩ ((zL l).val + 1) h (show l.val - 1 = 32 * (l.val / 32) + ((zL l).val + 1 - 2) by omega)
    · rw [if_neg h]; exact (neg ((zL l).val + 1) h).symm
  | 2 => exact pos l ((zL l).val + 2) (by omega) (show l.val = 32 * (l.val / 32) + ((zL l).val + 2 - 2) by omega)
  | 3 =>
    pointwise [shZ, inside, zzV, laneV, kst3]
    rw [sel (w_in3 l)]
    by_cases h : 2 ≤ (zL l).val + 3 ∧ (zL l).val + 3 < 34
    · rw [if_pos h, dif_pos (show l.val < 1023 by omega)]; exact pos ⟨1 + l.val, by omega⟩ ((zL l).val + 3) h (show 1 + l.val = 32 * (l.val / 32) + ((zL l).val + 3 - 2) by omega)
    · rw [if_neg h]; exact (neg ((zL l).val + 3) h).symm
  | 4 =>
    pointwise [shZ, inside, zzV, laneV, kst3]
    rw [sel (w_in4 l)]
    by_cases h : 2 ≤ (zL l).val + 4 ∧ (zL l).val + 4 < 34
    · rw [if_pos h, dif_pos (show l.val < 1022 by omega)]; exact pos ⟨2 + l.val, by omega⟩ ((zL l).val + 4) h (show 2 + l.val = 32 * (l.val / 32) + ((zL l).val + 4 - 2) by omega)
    · rw [if_neg h]; exact (neg ((zL l).val + 4) h).symm

theorem taps_at (sh : Fin 5 → Vec Ideal S3x16x1024 .f32 → Vec Ideal S3x16x1024 .f32) (even : IVec S16x1024 1) (v : Vec Ideal S3x16x1024 .f32) (g : Fin 3) (r : Fin 16) (l : Fin 1024) :
    taps sh even v (ix3 g r l) = Scalar.select (even (ix2 r l))
      (Ideal.ofBits FTy.f32 1040187392#32 * sh 1 v (ix3 g r l) + Ideal.ofBits FTy.f32 1052770304#32 * v (ix3 g r l) + Ideal.ofBits FTy.f32 1052770304#32 * sh 3 v (ix3 g r l) + Ideal.ofBits FTy.f32 1040187392#32 * sh 4 v (ix3 g r l))
      (Ideal.ofBits FTy.f32 1040187392#32 * sh 0 v (ix3 g r l) + Ideal.ofBits FTy.f32 1052770304#32 * sh 1 v (ix3 g r l) + Ideal.ofBits FTy.f32 1052770304#32 * v (ix3 g r l) + Ideal.ofBits FTy.f32 1040187392#32 * sh 3 v (ix3 g r l)) := by
  pointwise [taps, kst3]

/-- Four taps around a fine place, whatever its parity. -/
theorem taps_eq (sh : Fin 5 → Vec Ideal S3x16x1024 .f32 → Vec Ideal S3x16x1024 .f32) (even : IVec S16x1024 1) (v : Vec Ideal S3x16x1024 .f32) (g : Fin 3) (r : Fin 16) (l : Fin 1024)
    (Y : Fin 32) (f : Fin 32 → EReal) (he : even (ix2 r l) = 1#1 ↔ Y.val % 2 = 0) (hv : v (ix3 g r l) = f Y)
    (hs : ∀ d : Fin 5, sh d v (ix3 g r l) = if h : 2 ≤ Y.val + d.val ∧ Y.val + d.val < 34 then f ⟨Y.val + d.val - 2, by omega⟩ else 0) :
    taps sh even v (ix3 g r l) * rn (half Y) = ∑ X, (wD (half Y) X : EReal) * f X := by
  rw [taps_at, down_taps, c_eighth, c_threee, sel he, hs, hs, hs, hs, hv]
  congr 1
  have hh : (half Y).val = Y.val / 2 := rfl
  have fe : ∀ a b : Fin 32, a.val = b.val → f a = f b := fun a b h => congrArg f (Fin.ext h)
  by_cases hp : Y.val % 2 = 0
  · rw [if_pos hp]
    congr 1
    · congr 1
      · congr 1
        · congr 1
          by_cases h0 : 0 < (half Y).val
          · rw [dif_pos h0]; exact (dif_pos (show 2 ≤ Y.val + 1 ∧ Y.val + 1 < 34 by omega)).trans (fe _ _ (by show Y.val + 1 - 2 = 2 * (Y.val / 2) - 1; omega))
          · rw [dif_neg h0]; exact dif_neg (show ¬(2 ≤ Y.val + 1 ∧ Y.val + 1 < 34) by omega)
        · congr 1; exact fe _ _ (by show Y.val = 2 * (Y.val / 2); omega)
      · congr 1; exact (dif_pos (show 2 ≤ Y.val + 3 ∧ Y.val + 3 < 34 by omega)).trans (fe _ _ (by show Y.val + 3 - 2 = 2 * (Y.val / 2) + 1; omega))
    · congr 1
      by_cases h0 : (half Y).val < 15
      · rw [dif_pos h0]; exact (dif_pos (show 2 ≤ Y.val + 4 ∧ Y.val + 4 < 34 by omega)).trans (fe _ _ (by show Y.val + 4 - 2 = 2 * (Y.val / 2) + 2; omega))
      · rw [dif_neg h0]; exact dif_neg (show ¬(2 ≤ Y.val + 4 ∧ Y.val + 4 < 34) by omega)
  · rw [if_neg hp]
    congr 1
    · congr 1
      · congr 1
        · congr 1
          by_cases h0 : 0 < (half Y).val
          · rw [dif_pos h0]; exact (dif_pos (show 2 ≤ Y.val + 0 ∧ Y.val + 0 < 34 by omega)).trans (fe _ _ (by show Y.val + 0 - 2 = 2 * (Y.val / 2) - 1; omega))
          · rw [dif_neg h0]; exact dif_neg (show ¬(2 ≤ Y.val + 0 ∧ Y.val + 0 < 34) by omega)
        · congr 1; exact (dif_pos (show 2 ≤ Y.val + 1 ∧ Y.val + 1 < 34 by omega)).trans (fe _ _ (by show Y.val + 1 - 2 = 2 * (Y.val / 2); omega))
      · congr 1; exact fe _ _ (by show Y.val = 2 * (Y.val / 2) + 1; omega)
    · congr 1
      by_cases h0 : (half Y).val < 15
      · rw [dif_pos h0]; exact (dif_pos (show 2 ≤ Y.val + 3 ∧ Y.val + 3 < 34 by omega)).trans (fe _ _ (by show Y.val + 3 - 2 = 2 * (Y.val / 2) + 2; omega))
      · rw [dif_neg h0]; exact dif_neg (show ¬(2 ≤ Y.val + 3 ∧ Y.val + 3 < 34) by omega)

theorem mulf3_at (a b : FVec Ideal S3x16x1024 .f32) (i : S3x16x1024.Idx) : mulf (F := Ideal) (φ := .f32) a b i = (a i : EReal) * (b i : EReal) := rfl

theorem even_y (r : Fin 16) (l : Fin 1024) : cmpi CmpIPredicate.eq pyV (broadcast S16x1024 0#32) (ix2 r l) = 1#1 ↔ (yL l).val % 2 = 0 := by
  have h : cmpi CmpIPredicate.eq pyV (broadcast S16x1024 0#32) (ix2 r l) = IntOp.cmpi CmpIPredicate.eq (IntOp.andi (IntOp.shrsi ArithUnit.vector (BitVec.ofNat 32 l.val) 5#32) 1#32) 0#32 := by
    pointwise [pyV, laneV]
  rw [h]; exact w_py l
theorem even_z (r : Fin 16) (l : Fin 1024) : cmpi CmpIPredicate.eq pzV (broadcast S16x1024 0#32) (ix2 r l) = 1#1 ↔ (zL l).val % 2 = 0 := by
  have h : cmpi CmpIPredicate.eq pzV (broadcast S16x1024 0#32) (ix2 r l) = IntOp.cmpi CmpIPredicate.eq (IntOp.andi (BitVec.ofNat 32 l.val) 1#32) 0#32 := by
    pointwise [pzV, laneV]
  rw [h, w_pz]
  show _ ↔ l.val % 32 % 2 = 0
  omega

/-- The kernel's guide maps are the guide at low resolution. -/
theorem down_at (I : Args) (g0 g1 : Vec Ideal S3x16x1024 .f32)
    (h0 : ∀ (g : Fin 3) (x : Fin 16) (l : Fin 1024), g0 (ix3 g x l) = I.guide g ⟨2 * x.val, by omega⟩ (yL l) (zL l))
    (h1 : ∀ (g : Fin 3) (x : Fin 16) (l : Fin 1024), g1 (ix3 g x l) = I.guide g ⟨2 * x.val + 1, by omega⟩ (yL l) (zL l))
    (g : Fin 3) (r : Fin 16) (l : Fin 1024) : down g0 g1 (ix3 g r l) = low I g r (kyL l) (kzL l) := by
  have hX : ∀ l, downX g0 g1 (ix3 g r l) = ∑ X, (wD r X : EReal) * I.guide g X (yL l) (zL l) := fun l =>
    downX_at g0 g1 g r l (fun X => I.guide g X (yL l) (zL l)) (fun x => h0 g x l) (fun x => h1 g x l)
  have hY : ∀ l, mulf (F := Ideal) (φ := .f32) (taps shY (cmpi .eq pyV (broadcast S16x1024 0#32)) (downX g0 g1)) (renorm (F := Ideal) kyV) (ix3 g r l)
      = ∑ Y, (wD (kyL l) Y : EReal) * ∑ X, (wD r X : EReal) * I.guide g X Y (zL l) := fun l => by
    rw [mulf3_at, renorm_ky, ← half_yL]
    refine taps_eq shY _ _ g r l (yL l) (fun Y => ∑ X, (wD r X : EReal) * I.guide g X Y (zL l)) (even_y r l) (hX l) (fun d => ?_)
    rw [shY_at, atY]
    split_ifs
    · rw [hX, yL_lane, zL_lane]
    · rfl
  unfold down
  rw [mulf3_at, renorm_kz, ← half_zL]
  refine (taps_eq shZ _ _ g r l (zL l) (fun Z => ∑ Y, (wD (kyL l) Y : EReal) * ∑ X, (wD r X : EReal) * I.guide g X Y Z) (even_z r l) (hY l) (fun d => ?_)).trans ?_
  · rw [shZ_at, atZ]
    split_ifs
    · rw [hY, zL_lane, ← half_yL, yL_lane, ← half_yL]
    · rfl
  · exact Finset.sum_congr rfl fun Z _ => mul_comm _ _

/-! ## The radius at full resolution -/

theorem mix_at (a b : Vec Ideal S16x1024 .f32) (r : Fin 16) (l : Fin 1024) :
    mix a b (ix2 r l) = ((3 / 4 : ℝ) : EReal) * a (ix2 r l) + ((1 / 4 : ℝ) : EReal) * b (ix2 r l) := by
  rw [← c_threeq, ← c_quarter]
  pointwise [mix, kst]

theorem nearY_at (v : Vec Ideal S16x1024 .f32) (r : Fin 16) (l : Fin 1024) : nearY v (ix2 r l) = v (ix2 r (mk (near (yL l)) (kzL l) l)) := by
  have go : ∀ (d : Fin 5) (k : Fin 1024), k.val = 64 * min (l.val / 64 + d.val - 2) 15 + l.val / 32 % 2 * 32 + 2 * (l.val / 2 % 16) + l.val % 2 → v (ix2 r k) = v (ix2 r (mk (cl (kyL l) d) (kzL l) l)) :=
    fun d k hk => congrArg (fun k => v (ix2 r k)) (Fin.ext hk)
  pointwise [nearY, pyV, laneV]
  rw [sel (w_py l), near, half_yL]
  have hy : (yL l).val % 2 = l.val / 32 % 2 := rfl
  rw [hy]
  by_cases h : l.val / 32 % 2 = 0
  · rw [if_pos h, if_pos h]
    split_ifs <;> refine go 1 _ ?_ <;> show _ = 64 * min (l.val / 64 + 1 - 2) 15 + l.val / 32 % 2 * 32 + 2 * (l.val / 2 % 16) + l.val % 2 <;> (try simp only) <;> omega
  · rw [if_neg h, if_neg h]
    split_ifs <;> refine go 3 _ ?_ <;> show _ = 64 * min (l.val / 64 + 3 - 2) 15 + l.val / 32 % 2 * 32 + 2 * (l.val / 2 % 16) + l.val % 2 <;> (try simp only) <;> omega

theorem nearZ_at (v : Vec Ideal S16x1024 .f32) (r : Fin 16) (l : Fin 1024) : nearZ v (ix2 r l) = v (ix2 r (mk (kyL l) (near (zL l)) l)) := by
  show Scalar.select (cmpi CmpIPredicate.eq pzV (broadcast S16x1024 0#32) (ix2 r l)) (zsh 1 v (ix2 r l)) (zsh 3 v (ix2 r l)) = _
  rw [sel (even_z r l), near, half_zL, zsh_at, zsh_at]
  split_ifs <;> rfl

theorem nearX0_at (v : Vec Ideal S16x1024 .f32) (r : Fin 16) (l : Fin 1024) : nearX0 v (ix2 r l) = v (ix2 (cl r 1) l) := by
  have go : ∀ k : Fin 16, k.val = min (r.val + 1 - 2) 15 → v (ix2 k l) = v (ix2 (cl r 1) l) := fun k hk => congrArg (fun k => v (ix2 k l)) (Fin.ext hk)
  pointwise [nearX0]
  split_ifs <;> refine go _ ?_ <;> (try simp only) <;> omega

theorem nearX1_at (v : Vec Ideal S16x1024 .f32) (r : Fin 16) (l : Fin 1024) : nearX1 v (ix2 r l) = v (ix2 (cl r 3) l) := by
  have go : ∀ k : Fin 16, k.val = min (r.val + 3 - 2) 15 → v (ix2 k l) = v (ix2 (cl r 3) l) := fun k hk => congrArg (fun k => v (ix2 k l)) (Fin.ext hk)
  pointwise [nearX1]
  split_ifs <;> refine go _ ?_ <;> (try simp only) <;> omega

theorem upYZ_at (v : Vec Ideal S16x1024 .f32) (s : Fin 16 → Fin 16 → Fin 16 → EReal) (hv : ∀ r l, v (ix2 r l) = s r (kyL l) (kzL l)) (r : Fin 16) (l : Fin 1024) :
    upYZ v (ix2 r l) = ∑ z, (wU (zL l) z : EReal) * ∑ y, (wU (yL l) y : EReal) * s r y z := by
  have hy : ∀ l, mix v (nearY v) (ix2 r l) = ∑ y, (wU (yL l) y : EReal) * s r y (kzL l) := fun l => by
    rw [mix_at, up_mix (fun y => s r y (kzL l)), nearY_at, hv, hv, kyL_mk, kzL_mk, half_yL]
  unfold upYZ
  rw [mix_at, up_mix (fun z => ∑ y, (wU (yL l) y : EReal) * s r y z), nearZ_at, hy, hy, yL_mk, kzL_mk, half_zL]

theorem widest_at (I : Args) (a b c : Vec Ideal S16x1024 .f32) (r : Fin 16) (l : Fin 1024) (x y z : Fin 16) (h0 : a (ix2 r l) = I.raw 0 x y z) (h1 : b (ix2 r l) = I.raw 1 x y z)
    (h2 : c (ix2 r l) = I.raw 2 x y z) : widest a b c (ix2 r l) = wide I x y z := by
  pointwise [widest]
  rw [h0, h1, h2]
  rfl

/-- The last scratch's even and odd halves. -/
theorem reach_even (I : Args) (v : Vec Ideal S16x1024 .f32) (hv : ∀ r l, v (ix2 r l) = wide I r (kyL l) (kzL l)) (r : Fin 16) (l : Fin 1024) :
    mix (upYZ v) (nearX0 (upYZ v)) (ix2 r l) = reach I ⟨2 * r.val, by omega⟩ (yL l) (zL l) := by
  unfold reach
  rw [up_comm, up_mix, mix_at, nearX0_at, upYZ_at v _ hv, upYZ_at v _ hv]
  have e1 : half ⟨2 * r.val, by omega⟩ = r := Fin.ext (by show 2 * r.val / 2 = r.val; omega)
  rw [near, if_pos (show 2 * r.val % 2 = 0 by omega), e1]
theorem reach_odd (I : Args) (v : Vec Ideal S16x1024 .f32) (hv : ∀ r l, v (ix2 r l) = wide I r (kyL l) (kzL l)) (r : Fin 16) (l : Fin 1024) :
    mix (upYZ v) (nearX1 (upYZ v)) (ix2 r l) = reach I ⟨2 * r.val + 1, by omega⟩ (yL l) (zL l) := by
  unfold reach
  rw [up_comm, up_mix, mix_at, nearX1_at, upYZ_at v _ hv, upYZ_at v _ hv]
  have e1 : half ⟨2 * r.val + 1, by omega⟩ = r := Fin.ext (by show (2 * r.val + 1) / 2 = r.val; omega)
  rw [near, if_neg (show ¬(2 * r.val + 1) % 2 = 0 by omega), e1]

end Cert.Proof
end
-- ==== Proof.KRead.lean ====
/- What the kernel's loads read: of its inputs the entries, of its scratch arrays what was stored there. -/
module

public import proofs.«01_k».proof.Proof.KDown

@[expose] public section

set_option maxRecDepth 16384

noncomputable section

namespace Cert.Proof

open Cert.KernelIdeal Cert.KernelIdeal.Gen Idealize.ShloMosaic Idealize.ShloMosaic.Pointwise

/-! ## Pieces stored at rectangles that do not meet -/

theorem canon_map {s : Shape} {e : EltTy} {ι : Type} [DecidableEq ι] (R : ι → Rect s) (w : ∀ n, (R n).shape.Idx → Elt Ideal e) (n : ι) (x : (R n).shape.Idx)
    (hd : ∀ m, m ≠ n → (R n).emb x ∉ (R m).set) :
    ∀ L : List ι, n ∈ L → View.canon (L.map fun n => (⟨R n, w n⟩ : View.Piece (Elt Ideal) s e)) ((R n).emb x) = w n x
  | m :: L, h => by
    by_cases hm : m = n
    · subst hm; exact View.canon_cons_emb _ _ _ x
    · exact (View.canon_cons_of_not_mem _ _ (hd m hm)).trans (canon_map R w n x hd L ((List.mem_cons.mp h).resolve_left (Ne.symm hm)))

theorem rectS_off (a : Fin 5) (q : Fin 7) (x : (rectS a q).shape.Idx) (b : Fin 5 × Fin 7) (h : b ≠ (a, q)) : (rectS a q).emb x ∉ (rectS b.1 b.2).set := fun hm => by
  have h0 := Rect.mem_set_unit.mp hm 0
  have h1 := Rect.mem_set_unit.mp hm 1
  have e0 : ((rectS a q).emb x 0).val = a.val + 1 * (x 0).val := rfl
  have e1 : ((rectS a q).emb x 1).val = q.val + 1 * (x 1).val := rfl
  have x0 : (x 0).val < 1 := (x 0).isLt
  have x1 : (x 1).val < 1 := (x 1).isLt
  have h0' : b.1.val ≤ ((rectS a q).emb x 0).val ∧ ((rectS a q).emb x 0).val < b.1.val + 1 := h0
  have h1' : b.2.val ≤ ((rectS a q).emb x 1).val ∧ ((rectS a q).emb x 1).val < b.2.val + 1 := h1
  exact h (Prod.ext (Fin.ext (show b.1.val = a.val by omega)) (Fin.ext (show b.2.val = q.val by omega)))

theorem rectF_off (a : Fin 5) (x : (rectF a).shape.Idx) (b : Fin 5) (h : b ≠ a) : (rectF a).emb x ∉ (rectF b).set := fun hm => by
  have h0' : b.val ≤ ((rectF a).emb x 0).val ∧ ((rectF a).emb x 0).val < b.val + 1 := Rect.mem_set_unit.mp hm 0
  have e0 : ((rectF a).emb x 0).val = a.val + 1 * (x 0).val := rfl
  have x0 : (x 0).val < 1 := (x 0).isLt
  exact h (Fin.ext (by omega))

theorem rectW_off (a : Fin 33) (x : (rectW a).shape.Idx) (b : Fin 33) (h : b ≠ a) : (rectW a).emb x ∉ (rectW b).set := fun hm => by
  have h0' : b.val ≤ ((rectW a).emb x 0).val ∧ ((rectW a).emb x 0).val < b.val + 1 := Rect.mem_set_unit.mp hm 0
  have e0 : ((rectW a).emb x 0).val = a.val + 1 * (x 0).val := rfl
  have x0 : (x 0).val < 1 := (x 0).isLt
  exact h (Fin.ext (by omega))

theorem rectO_off (a : Fin 8) (x : (rectO a).shape.Idx) (b : Fin 8) (h : b ≠ a) : (rectO a).emb x ∉ (rectO b).set := fun hm => by
  have h0' : 4 * b.val ≤ ((rectO a).emb x 1).val ∧ ((rectO a).emb x 1).val < 4 * b.val + 4 := Rect.mem_set_unit.mp hm 1
  have e0 : ((rectO a).emb x 1).val = 4 * a.val + 1 * (x 1).val := rfl
  have x0 : (x 1).val < 4 := (x 1).isLt
  exact h (Fin.ext (by omega))

/-! ## The inputs -/

section
variable (arg0 : Memref sig .tc .vmem S32x16x1024 .f32) (harg0 : arg0.IsWhole) (arg1 : Memref sig .tc .vmem S2x3x16x1024 .f32) (harg1 : arg1.IsWhole) (arg2 : Memref sig .tc .vmem S4x16x1024 .f32) (harg2 : arg2.IsWhole) (arg3 : Memref sig .tc .vmem S33x2x16 .f32) (harg3 : arg3.IsWhole) (arg4 : Memref sig .tc .vmem S33x1024 .f32) (harg4 : arg4.IsWhole)
    (x0 : Vec Ideal S32x16x1024 .f32) (x1 : Vec Ideal S2x3x16x1024 .f32) (x2 : Vec Ideal S4x16x1024 .f32) (x3 : Vec Ideal S33x2x16 .f32) (x4 : Vec Ideal S33x1024 .f32)

theorem scR (v : Vec Ideal S1x16x1024 .f32) (r : Fin 16) (l : Fin 1024) : shapeCast S16x1024 v shapeCasts_S1x16x1024_S16x1024 (ix2 r l) = v (ix3 0 r l) := by
  pointwise
theorem scH (v : Vec Ideal S1x3x16x1024 .f32) (g : Fin 3) (r : Fin 16) (l : Fin 1024) : shapeCast S3x16x1024 v shapeCasts_S1x3x16x1024_S3x16x1024 (ix3 g r l) = v (ix4 0 g r l) := by
  pointwise

theorem rawAt_at (i : Fin 4) (r : Fin 16) (l : Fin 1024) : rawAt arg2 harg2 x2 i (ix2 r l) = x2 (ix3 i r l) := by
  unfold rawAt
  rw [View.readAt_eq_ld, harg2.read_unread]
  refine (scR _ r l).trans (congrArg x2 ?_)
  funext j
  fin_cases j
  · exact Fin.ext (show i.val + 1 * 0 = i.val by omega)
  · exact Fin.ext (show 0 + 1 * r.val = r.val by omega)
  · exact Fin.ext (show 0 + 1 * l.val = l.val by omega)

theorem halfAt_at (p : Fin 2) (g : Fin 3) (r : Fin 16) (l : Fin 1024) : halfAt arg1 harg1 x1 p (ix3 g r l) = x1 (ix4 p g r l) := by
  unfold halfAt
  rw [View.readAt_eq_ld, harg1.read_unread]
  refine (scH _ g r l).trans (congrArg x1 ?_)
  funext j
  fin_cases j
  · exact Fin.ext (show p.val + 1 * 0 = p.val by omega)
  · exact Fin.ext (show 0 + 1 * g.val = g.val by omega)
  · exact Fin.ext (show 0 + 1 * r.val = r.val by omega)
  · exact Fin.ext (show 0 + 1 * l.val = l.val by omega)

theorem featIn_at (ch : Fin 32) (r : Fin 16) (l : Fin 1024) : featIn arg0 harg0 x0 (ix3 ch r l) = x0 (ix3 ch r l) := by
  unfold featIn
  rw [View.readAt_eq_ld, harg0.read_unread]
  pointwise

theorem guideAt_at (g : Fin 3) (p : Fin 2) (r : Fin 16) (l : Fin 1024) : guideAt arg1 harg1 x1 g (ix3 p r l) = x1 (ix4 p g r l) := by
  match g with
  | 0 => simp only [guideAt]; rw [View.readAt_eq_ld, harg1.read_unread]; pointwise
  | 1 => simp only [guideAt]; rw [View.readAt_eq_ld, harg1.read_unread]; pointwise
  | 2 => simp only [guideAt]; rw [View.readAt_eq_ld, harg1.read_unread]; pointwise

theorem distX_at (n : Fin 33) (p : Fin 2) (r : Fin 16) : distX arg3 harg3 x3 n (ix3 0 p r) = x3 (ix3 n p r) := by
  unfold distX
  rw [View.readAt_eq_ld, harg3.read_unread]
  pointwise

theorem distF_at (n : Fin 33) (l : Fin 1024) : distF arg4 harg4 x4 n (ix2 0 l) = x4 (ix2 n l) := by
  unfold distF
  rw [View.readAt_eq_ld, harg4.read_unread]
  pointwise

/-! ## The first two scratch arrays -/

theorem sc20 (v : Vec Ideal S1x1x20x1024 .f32) (r : Fin 20) (l : Fin 1024) : shapeCast S20x1024 v shapeCasts_S1x1x20x1024_S20x1024 (ix2 r l) = v (ix4 0 0 r l) := by
  pointwise
theorem sc20' (v : Vec Ideal S20x1024 .f32) (r : Fin 20) (l : Fin 1024) : shapeCast S1x1x20x1024 v shapeCasts_S20x1024_S1x1x20x1024 (ix4 0 0 r l) = v (ix2 r l) := by
  pointwise

theorem slab_read (arg7 : Memref sig .tc .vmem S5x7x20x1024 .f32) (a : Fin 5) (q : Fin 7) (r : Fin 20) (l : Fin 1024) :
    shapeCast S20x1024 (arg7.view.readCov (slabPieces arg1 harg1 arg2 harg2 x1 x2) (rectS a q).toLoadRect) shapeCasts_S1x1x20x1024_S20x1024 (ix2 r l)
      = pad (zsh a (smallMap (rawAt arg2 harg2 x2) (halfAt arg1 harg1 x1 0) (halfAt arg1 harg1 x1 1) q)) (ix2 r l) := by
  refine (sc20 _ r l).trans ((congrFun (View.readCov_eq_canon' _ _ _) _).trans ?_)
  refine (canon_map (fun aq : Fin 5 × Fin 7 => rectS aq.1 aq.2)
    (fun aq => shapeCast S1x1x20x1024 (pad (zsh aq.1 (smallMap (rawAt arg2 harg2 x2) (halfAt arg1 harg1 x1 0) (halfAt arg1 harg1 x1 1) aq.2))) shapeCasts_S20x1024_S1x1x20x1024)
    (a, q) (ix4 0 0 r l) (rectS_off a q _) ([4, 3, 2, 1, 0].flatMap fun a : Fin 5 => [6, 5, 4, 3, 2, 1, 0].map fun q : Fin 7 => (a, q)) ?_).trans (sc20' _ r l)
  revert a q; decide

theorem mapAt_at (c : Dev nD) (arg7 : Memref sig .tc .vmem S5x7x20x1024 .f32) (n : Fin 33) (q : Fin 7) (r : Fin 16) (l : Fin 1024) :
    mapAt c arg1 harg1 arg2 harg2 arg7 x1 x2 n q (ix2 r l)
      = smallMap (rawAt arg2 harg2 x2) (halfAt arg1 harg1 x1 0) (halfAt arg1 harg1 x1 1) q (ix2 (cl r (offX n)) (mk (cl (kyL l) (offY n)) (cl (kzL l) (offZ n)) l)) := by
  rw [mapAt, slab_pieces]
  refine Eq.trans ?_ (shift_at _ _ _ (smallMap (rawAt arg2 harg2 x2) (halfAt arg1 harg1 x1 0) (halfAt arg1 harg1 x1 1) q) r l)
  rw [rows_at, rows_at, ysh_at, ysh_at]
  exact slab_read arg1 harg1 arg2 harg2 x1 x2 arg7 (offZ n) q _ _

theorem sc4 (v : Vec Ideal S1x4x20x1024 .f32) (i : Fin 4) (r : Fin 20) (l : Fin 1024) : shapeCast S4x20x1024 v shapeCasts_S1x4x20x1024_S4x20x1024 (ix3 i r l) = v (ix4 0 i r l) := by
  pointwise
theorem sc32' (v : Vec Ideal S32x20x1024 .f32) (i : Fin 32) (r : Fin 20) (l : Fin 1024) : shapeCast S1x32x20x1024 v shapeCasts_S32x20x1024_S1x32x20x1024 (ix4 0 i r l) = v (ix3 i r l) := by
  pointwise

theorem featAt_at (arg8 : Memref sig .tc .vmem S5x32x20x1024 .f32) (n : Fin 33) (b : Fin 8) (i : Fin 4) (r : Fin 16) (l : Fin 1024) :
    featAt arg8 (featPieces arg0 harg0 x0) n b (ix3 i r l)
      = x0 (ix3 ⟨4 * b.val + i.val, by omega⟩ (cl r (offX n)) (mk (cl (kyL l) (offY n)) (cl (kzL l) (offZ n)) l)) := by
  rw [featAt, rowsF_at, yshF_at]
  refine (sc4 _ _ _ _).trans ((congrFun (View.readCov_eq_canon' _ _ _) _).trans ?_)
  have hi : (rectC (offZ n) b).idx (ix4 0 i ⟨r.val + (offX n).val, by omega⟩ (mk (cl (kyL l) (offY n)) (kzL l) l))
      = (rectF (offZ n)).emb (ix4 0 ⟨4 * b.val + i.val, by omega⟩ ⟨r.val + (offX n).val, by omega⟩ (mk (cl (kyL l) (offY n)) (kzL l) l)) := by
    funext j
    fin_cases j
    · rfl
    · exact Fin.ext (show 4 * b.val + 1 * i.val = 0 + 1 * (4 * b.val + i.val) by omega)
    · rfl
    · rfl
  refine (congrArg _ hi).trans ?_
  refine (canon_map rectF (fun a => shapeCast S1x32x20x1024 (padF (zshF a (featIn arg0 harg0 x0))) shapeCasts_S32x20x1024_S1x32x20x1024)
    (offZ n) (ix4 0 ⟨4 * b.val + i.val, by omega⟩ ⟨r.val + (offX n).val, by omega⟩ (mk (cl (kyL l) (offY n)) (kzL l) l)) (rectF_off _ _) [4, 3, 2, 1, 0] ?_).trans ?_
  · generalize offZ n = a
    revert a; decide
  · rw [sc32', padF_at, zshF_at, featIn_at, kyL_mk, kzL_mk, mk_mk]

/-! ## The third and the last -/

theorem scW (v : Vec Ideal S1x2x16x1024 .f32) (p : Fin 2) (r : Fin 16) (l : Fin 1024) : shapeCast S2x16x1024 v shapeCasts_S1x2x16x1024_S2x16x1024 (ix3 p r l) = v (ix4 0 p r l) := by
  pointwise
theorem scW' (v : Vec Ideal S2x16x1024 .f32) (p : Fin 2) (r : Fin 16) (l : Fin 1024) : shapeCast S1x2x16x1024 v shapeCasts_S2x16x1024_S1x2x16x1024 (ix4 0 p r l) = v (ix3 p r l) := by
  pointwise
theorem scT (v : Vec Ideal S16x1024 .f32) (r : Fin 16) (l : Fin 1024) : shapeCast S1x16x1024 v shapeCasts_S16x1024_S1x16x1024 (ix3 0 r l) = v (ix2 r l) := by
  pointwise

theorem w_read (arg9 : Memref sig .tc .vmem S33x2x16x1024 .f32) (L : List (View.Piece (Elt Ideal) S33x2x16x1024 .f32)) (n : Fin 33) (p : Fin 2) (r : Fin 16) (l : Fin 1024) :
    shapeCast S2x16x1024 (arg9.view.readCov L (rectW n).toLoadRect) shapeCasts_S1x2x16x1024_S2x16x1024 (ix3 p r l) = View.canon L ((rectW n).emb (ix4 0 p r l)) := by
  exact (scW _ _ _ _).trans (congrFun (View.readCov_eq_canon' _ _ _) _)

/-- The radius map at full resolution. -/
theorem thrAt_at (I : Args) (h2 : ∀ (i : Fin 4) (r : Fin 16) (l : Fin 1024), x2 (ix3 i r l) = I.raw i r (kyL l) (kzL l))
    (c : Dev nD) (arg10 : Memref sig .tc .vmem S2x16x1024 .f32) (p : Fin 2) (r : Fin 16) (l : Fin 1024) :
    thrAt c arg2 harg2 arg10 x2 (ix3 p r l) = reach I ⟨2 * r.val + p.val, by omega⟩ (yL l) (zL l) := by
  have hw : ∀ r l, widest (rawAt arg2 harg2 x2 0) (rawAt arg2 harg2 x2 1) (rawAt arg2 harg2 x2 2) (ix2 r l) = wide I r (kyL l) (kzL l) := fun r l =>
    widest_at I _ _ _ r l r (kyL l) (kzL l) (by rw [rawAt_at, h2]) (by rw [rawAt_at, h2]) (by rw [rawAt_at, h2])
  rw [thrAt, thr_pieces]
  refine (congrFun (View.readCov_eq_canon' _ _ _) _).trans ?_
  rw [thrPieces]
  match p with
  | 0 =>
    refine (View.canon_cons_of_not_mem _ _ (fun hm => ?_)).trans ?_
    · have h0 : 1 ≤ 0 + 1 * 0 ∧ 0 + 1 * 0 < 1 + 1 := (Rect.mem_set_unit (s := S2x16x1024) (off := ![1, 0, 0]) (size := S1x16x1024.size) (inb := inb_S2x16x1024_S1x16x1024_1_0_0)).mp hm 0
      omega
    · have hi : (Rect.unit (s := S2x16x1024) ![0, 0, 0] S2x16x1024.size inb_S2x16x1024_S2x16x1024_0_0_0).idx (ix3 0 r l)
          = (Rect.unit (s := S2x16x1024) ![0, 0, 0] S1x16x1024.size inb_S2x16x1024_S1x16x1024_0_0_0).emb (ix3 0 r l) := by
        funext j; fin_cases j <;> rfl
      refine (congrArg _ hi).trans ((View.canon_cons_emb _ _ _ _).trans ?_)
      exact (scT _ r l).trans (reach_even I _ hw r l)
  | 1 =>
    have hi : (Rect.unit (s := S2x16x1024) ![0, 0, 0] S2x16x1024.size inb_S2x16x1024_S2x16x1024_0_0_0).idx (ix3 1 r l)
        = (Rect.unit (s := S2x16x1024) ![1, 0, 0] S1x16x1024.size inb_S2x16x1024_S1x16x1024_1_0_0).emb (ix3 0 r l) := by
      funext j; fin_cases j <;> rfl
    refine (congrArg _ hi).trans ((View.canon_cons_emb _ _ _ _).trans ?_)
    exact (scT _ r l).trans (reach_odd I _ hw r l)
end

end Cert.Proof
end
-- ==== Proof.KLog.lean ====
/- The kernel's masked log weights are the specification's, and their largest is the largest over all 125 offsets. -/
module

public import proofs.«01_k».proof.Proof.KRead

@[expose] public section

set_option maxRecDepth 16384

noncomputable section

namespace Cert.Proof

open Cert.KernelIdeal Cert.KernelIdeal.Gen Idealize.ShloMosaic Idealize.ShloMosaic.Pointwise

/-- What the six inputs of the kernel hold. -/
structure Fed (I : Args) (x0 : Vec Ideal S32x16x1024 .f32) (x1 : Vec Ideal S2x3x16x1024 .f32) (x2 : Vec Ideal S4x16x1024 .f32) (x3 : Vec Ideal S33x2x16 .f32)
    (x4 : Vec Ideal S33x1024 .f32) (x5 : Vec Ideal S33x1024 .f32) : Prop where
  feat : ∀ (ch : Fin 32) (r : Fin 16) (l : Fin 1024), x0 (ix3 ch r l) = I.feat ch r (kyL l) (kzL l)
  guide : ∀ (p : Fin 2) (g : Fin 3) (r : Fin 16) (l : Fin 1024), x1 (ix4 p g r l) = I.guide g ⟨2 * r.val + p.val, by omega⟩ (yL l) (zL l)
  raw : ∀ (i : Fin 4) (r : Fin 16) (l : Fin 1024), x2 (ix3 i r l) = I.raw i r (kyL l) (kzL l)
  dx : ∀ (n : Fin 33) (p : Fin 2) (r : Fin 16), x3 (ix3 n p r) = (dst ⟨2 * r.val + p.val, by omega⟩ (offX n) : EReal) * (dst ⟨2 * r.val + p.val, by omega⟩ (offX n) : EReal)
  dy : ∀ (n : Fin 33) (l : Fin 1024), x4 (ix2 n l) = (dst (yL l) (offY n) : EReal) * (dst (yL l) (offY n) : EReal)
  dz : ∀ (n : Fin 33) (l : Fin 1024), x5 (ix2 n l) = (dst (zL l) (offZ n) : EReal) * (dst (zL l) (offZ n) : EReal)

theorem spatialOf_at (v : Vec Ideal S16x1024 .f32) (r : Fin 16) (l : Fin 1024) : spatialOf v (ix2 r l) = Ideal.div 1 (twoSq (v (ix2 r l))) := by
  have h : spatialOf v (ix2 r l) = Ideal.div (Ideal.ofBits FTy.f32 1065353216#32)
      (Ideal.ofBits FTy.f32 1073741824#32 * (max (Ideal.exp (v (ix2 r l))) (Ideal.ofBits FTy.f32 897988541#32) * max (Ideal.exp (v (ix2 r l))) (Ideal.ofBits FTy.f32 897988541#32))) := by
    pointwise [spatialOf, kst]
  rw [h, c_one, c_two]
  rfl
theorem rangeOf_at (v : Vec Ideal S16x1024 .f32) (r : Fin 16) (l : Fin 1024) : rangeOf v (ix2 r l) = Ideal.div 1 (twoSq (v (ix2 r l)) + del) := by
  have h : rangeOf v (ix2 r l) = Ideal.div (Ideal.ofBits FTy.f32 1065353216#32)
      (Ideal.ofBits FTy.f32 1073741824#32 * (max (Ideal.exp (v (ix2 r l))) (Ideal.ofBits FTy.f32 897988541#32) * max (Ideal.exp (v (ix2 r l))) (Ideal.ofBits FTy.f32 897988541#32))
        + Ideal.ofBits FTy.f32 841731191#32) := by
    pointwise [rangeOf, kst]
  rw [h, c_one, c_two]
  rfl

theorem chan_at (g : Fin 3) (v : Vec Ideal S3x16x1024 .f32) (r : Fin 16) (l : Fin 1024) : chan g v (ix2 r l) = v (ix3 g r l) := by
  match g with
  | 0 => pointwise [chan]
  | 1 => pointwise [chan]
  | 2 => pointwise [chan]

/-- The shape of a log weight. -/
theorem form_at (d0 : Vec Ideal S1x2x16 .f32) (d1 d2 : Vec Ideal S1x1024 .f32) (g0 g1 g2 : FVec Ideal S2x16x1024 .f32) (m0 m1 m2 m3 m4 m5 m6 : Vec Ideal S16x1024 .f32)
    (p : Fin 2) (r : Fin 16) (l : Fin 1024) :
    subf (F := Ideal) (φ := .f32) (subf (broadcast S2x16x1024 (FloatOps.ofBits FTy.f32 0#32))
        (addf (addf (mulf (broadcastTo S2x16x1024 (shapeCast S2x16x1 (shapeCast S2x16 d0 shapeCasts_S1x2x16_S2x16) shapeCasts_S2x16_S2x16x1) broadcasts_S2x16x1_S2x16x1024) (both m0))
          (laneTerm d1 m1)) (laneTerm d2 m2)))
      (mulf (addf (addf (sqDiff g0 m4) (sqDiff g1 m5)) (sqDiff g2 m6)) (both m3)) (ix3 p r l)
    = (0 - ((d0 (ix3 0 p r) : EReal) * m0 (ix2 r l) + (d1 (ix2 0 l) : EReal) * m1 (ix2 r l) + (d2 (ix2 0 l) : EReal) * m2 (ix2 r l)))
      - (((g0 (ix3 p r l) : EReal) - m4 (ix2 r l)) * ((g0 (ix3 p r l) : EReal) - m4 (ix2 r l)) + ((g1 (ix3 p r l) : EReal) - m5 (ix2 r l)) * ((g1 (ix3 p r l) : EReal) - m5 (ix2 r l))
          + ((g2 (ix3 p r l) : EReal) - m6 (ix2 r l)) * ((g2 (ix3 p r l) : EReal) - m6 (ix2 r l))) * (m3 (ix2 r l) : EReal) := by
  pointwise [laneTerm, sqDiff, both]

theorem named_mask : Named.named (F := Ideal) (φ := .f32) κ "mask" 0xCE6E6B28#32 = (⊥ : EReal) :=
  IdealRules.named_const.ideal_named_scalar _ _ _ _ rfl

theorem mask_form (t w : FVec Ideal S2x16x1024 .f32) (i : S2x16x1024.Idx) :
    select (cmpf (F := Ideal) .ogt t (broadcast S2x16x1024 (FloatOps.ofBits FTy.f32 0x3F000000#32))) w (broadcast S2x16x1024 (Named.named κ "mask" 0xCE6E6B28#32)) i
      = if ((1 / 2 : ℝ) : EReal) < t i then (w i : EReal) else ⊥ := by
  show (if Ideal.cmp .ogt (t i) (Ideal.ofBits FTy.f32 1056964608#32) = 1 then (w i : EReal) else Named.named (F := Ideal) (φ := .f32) κ "mask" 0xCE6E6B28#32) = _
  rw [c_half, named_mask]
  by_cases h : ((1 / 2 : ℝ) : EReal) < t i
  · rw [if_pos h, if_pos ((Ideal.cmp_ogt_eq_one _ _).mpr h)]
  · rw [if_neg h, if_neg (fun hc => h ((Ideal.cmp_ogt_eq_one _ _).mp hc))]

/-! ## The 33 offsets among the 125 -/

/-- The number of an offset among all. -/
def num (n : Fin 33) : Fin 125 := ⟨25 * (offX n).val + 5 * (offY n).val + (offZ n).val, by omega⟩
theorem num_digits : ∀ n, dA (num n) = offX n ∧ dB (num n) = offY n ∧ dC (num n) = offZ n := by decide +kernel
theorem num_inj : Function.Injective num := by
  have : ∀ a b : Fin 33, num a = num b → a = b := by decide +kernel
  exact fun a b => this a b
theorem num_rest : ∀ j : Fin 125, (∃ n, num n = j) ∨ 4 < len (dA j) (dB j) (dC j) := by decide +kernel
theorem gated_false : ∀ n, gated n = false → len (offX n) (offY n) (offZ n) ≤ 1 := by decide +kernel
theorem gated_true : ∀ n, gated n = true → 1 < len (offX n) (offY n) (offZ n) ∧ len (offX n) (offY n) (offZ n) ≤ 4 := by decide +kernel

section
variable (I : Args) (X Y Z : Fin 32)

theorem T_far (j : Fin 125) (h : 4 < len (dA j) (dB j) (dC j)) : T I X Y Z j = ⊥ := by
  unfold T mlog
  rw [if_neg]
  unfold keep
  omega

theorem top_eq : Finset.univ.sup (fun n => T I X Y Z (num n)) = top I X Y Z := by
  refine le_antisymm (Finset.sup_le fun n _ => Finset.le_sup (f := T I X Y Z) (Finset.mem_univ _)) (Finset.sup_le fun j _ => ?_)
  rcases num_rest j with ⟨n, rfl⟩ | h
  · exact Finset.le_sup (f := fun n => T I X Y Z (num n)) (Finset.mem_univ n)
  · rw [T_far I X Y Z j h]; exact bot_le

theorem ew_far (j : Fin 125) (h : 4 < len (dA j) (dB j) (dC j)) : ew I X Y Z j = 0 := by
  unfold ew
  rw [T_far I X Y Z j h, EReal.bot_sub, Ideal.exp_bot]

theorem sum_num (f : Fin 125 → EReal) : ∑ n, ew I X Y Z (num n) * f (num n) = ∑ j, ew I X Y Z j * f j := by
  refine Finset.sum_of_injOn num (num_inj.injOn) (fun _ _ => Finset.mem_coe.mpr (Finset.mem_univ _)) (fun j _ hj => ?_) (fun _ _ => rfl)
  rcases num_rest j with ⟨n, rfl⟩ | h
  · exact absurd ⟨n, Finset.mem_coe.mpr (Finset.mem_univ n), rfl⟩ hj
  · rw [ew_far I X Y Z j h, zero_mul]
theorem sum_num' : ∑ n, ew I X Y Z (num n) = ∑ j, ew I X Y Z j := by
  have := sum_num I X Y Z (fun _ => 1)
  simpa only [mul_one] using this
end

/-! ## The log weights -/

section
variable (I : Args) (c : Dev nD) (arg1 : Memref sig .tc .vmem S2x3x16x1024 .f32) (harg1 : arg1.IsWhole) (arg2 : Memref sig .tc .vmem S4x16x1024 .f32) (harg2 : arg2.IsWhole) (arg3 : Memref sig .tc .vmem S33x2x16 .f32) (harg3 : arg3.IsWhole) (arg4 : Memref sig .tc .vmem S33x1024 .f32) (harg4 : arg4.IsWhole) (arg5 : Memref sig .tc .vmem S33x1024 .f32) (harg5 : arg5.IsWhole) (arg7 : Memref sig .tc .vmem S5x7x20x1024 .f32) (arg9 : Memref sig .tc .vmem S33x2x16x1024 .f32) (arg10 : Memref sig .tc .vmem S2x16x1024 .f32)
    (x0 : Vec Ideal S32x16x1024 .f32) (x1 : Vec Ideal S2x3x16x1024 .f32) (x2 : Vec Ideal S4x16x1024 .f32) (x3 : Vec Ideal S33x2x16 .f32) (x4 : Vec Ideal S33x1024 .f32) (x5 : Vec Ideal S33x1024 .f32)
    (hI : Fed I x0 x1 x2 x3 x4 x5) (n : Fin 33) (p : Fin 2) (r : Fin 16) (l : Fin 1024)
include hI

theorem maps_at (g : Fin 3) : chan g (down (halfAt arg1 harg1 x1 0) (halfAt arg1 harg1 x1 1)) (ix2 r l) = low I g r (kyL l) (kzL l) := by
  rw [chan_at]
  exact down_at I _ _ (fun g x l => by rw [halfAt_at, hI.guide]; rfl) (fun g x l => by rw [halfAt_at, hI.guide]; rfl) g r l

theorem logW_at : logW c arg1 harg1 arg2 harg2 arg3 harg3 arg4 harg4 arg5 harg5 arg7 x1 x2 x3 x4 x5 n (ix3 p r l)
    = logw I ⟨2 * r.val + p.val, by omega⟩ (yL l) (zL l) (offX n) (offY n) (offZ n) := by
  have hh : half ⟨2 * r.val + p.val, by omega⟩ = r := Fin.ext (by show (2 * r.val + p.val) / 2 = r.val; omega)
  unfold logW
  refine (form_at _ _ _ _ _ _ _ _ _ _ _ _ _ p r l).trans ?_
  have hs : ∀ i : Fin 3, spatialOf (rawAt arg2 harg2 x2 ⟨i.val, by omega⟩) (ix2 (cl r (offX n)) (mk (cl (kyL l) (offY n)) (cl (kzL l) (offZ n)) l))
      = Ideal.div 1 (twoSq (I.raw ⟨i.val, by omega⟩ (cl r (offX n)) (cl (kyL l) (offY n)) (cl (kzL l) (offZ n)))) := fun i => by
    rw [spatialOf_at, rawAt_at, hI.raw, kyL_mk, kzL_mk]
  have hr : rangeOf (rawAt arg2 harg2 x2 3) (ix2 (cl r (offX n)) (mk (cl (kyL l) (offY n)) (cl (kzL l) (offZ n)) l))
      = Ideal.div 1 (twoSq (I.raw 3 (cl r (offX n)) (cl (kyL l) (offY n)) (cl (kzL l) (offZ n))) + del) := by
    rw [rangeOf_at, rawAt_at, hI.raw, kyL_mk, kzL_mk]
  have hg : ∀ g : Fin 3, chan g (down (halfAt arg1 harg1 x1 0) (halfAt arg1 harg1 x1 1)) (ix2 (cl r (offX n)) (mk (cl (kyL l) (offY n)) (cl (kzL l) (offZ n)) l))
      = low I g (cl r (offX n)) (cl (kyL l) (offY n)) (cl (kzL l) (offZ n)) := fun g => by
    rw [maps_at I arg1 harg1 x0 x1 x2 x3 x4 x5 hI, kyL_mk, kzL_mk]
  simp only [mapAt_at, smallMap]
  rw [hr, hg 0, hg 1, hg 2]
  rw [show spatialOf (rawAt arg2 harg2 x2 0) _ = _ from hs 0, show spatialOf (rawAt arg2 harg2 x2 1) _ = _ from hs 1, show spatialOf (rawAt arg2 harg2 x2 2) _ = _ from hs 2]
  rw [distX_at, distF_at, distF_at, guideAt_at, guideAt_at, guideAt_at, hI.dx, hI.dy, hI.dz, hI.guide, hI.guide, hI.guide]
  unfold logw
  rw [hh, half_yL, half_zL]
  exact logw_eq _ _ _ _ _ _ _ _ (dst _ (offX n) * dst _ (offX n)) (dst _ (offY n) * dst _ (offY n)) (dst _ (offZ n) * dst _ (offZ n))
    (EReal.coe_mul _ _).symm (EReal.coe_mul _ _).symm (EReal.coe_mul _ _).symm (twoSq_pos _) (twoSq_pos _) (twoSq_pos _) (twoSq_del_pos _)

theorem maskW_at : maskW c arg1 harg1 arg2 harg2 arg3 harg3 arg4 harg4 arg5 harg5 arg7 arg10 x1 x2 x3 x4 x5 n (ix3 p r l)
    = T I ⟨2 * r.val + p.val, by omega⟩ (yL l) (zL l) (num n) := by
  have hlog := logW_at I c arg1 harg1 arg2 harg2 arg3 harg3 arg4 harg4 arg5 harg5 arg7 x0 x1 x2 x3 x4 x5 hI n p r l
  have hthr := thrAt_at arg2 harg2 x2 I hI.raw c arg10 p r l
  obtain ⟨e0, e1, e2⟩ := num_digits n
  unfold T mlog
  rw [e0, e1, e2]
  cases hgt : gated n with
  | false =>
    rw [if_pos (show keep I _ _ _ (offX n) (offY n) (offZ n) from Or.inl (gated_false n hgt)), ← hlog]
    unfold maskW
    rw [hgt]
  | true =>
    obtain ⟨l1, l4⟩ := gated_true n hgt
    have hm : maskW c arg1 harg1 arg2 harg2 arg3 harg3 arg4 harg4 arg5 harg5 arg7 arg10 x1 x2 x3 x4 x5 n (ix3 p r l)
        = if ((1 / 2 : ℝ) : EReal) < reach I ⟨2 * r.val + p.val, by omega⟩ (yL l) (zL l) then logw I ⟨2 * r.val + p.val, by omega⟩ (yL l) (zL l) (offX n) (offY n) (offZ n) else ⊥ := by
      unfold maskW
      rw [hgt]
      refine (mask_form _ _ _).trans ?_
      rw [hthr, hlog]
    rw [hm]
    by_cases h : ((1 / 2 : ℝ) : EReal) < reach I ⟨2 * r.val + p.val, by omega⟩ (yL l) (zL l)
    · rw [if_pos h, if_pos (show keep I _ _ _ (offX n) (offY n) (offZ n) from Or.inr ⟨l4, h⟩)]
    · rw [if_neg h, if_neg (show ¬keep I _ _ _ (offX n) (offY n) (offZ n) from fun hk => hk.elim (fun h1 => by omega) (fun h2 => h h2.2))]

end

end Cert.Proof
end
-- ==== Proof.KSum.lean ====
/- The exponentials, their sum and one block of results, read at an index in terms of the log weights stored before. -/
module

public import proofs.«01_k».proof.Proof.KRead

@[expose] public section

set_option maxRecDepth 16384

noncomputable section

namespace Cert.Proof

open Cert.KernelIdeal Cert.KernelIdeal.Gen Idealize.ShloMosaic Idealize.ShloMosaic.Pointwise

/-! ## Folds of vectors -/

theorem fold_add {s : Shape} {ι : Type} (W : ι → FVec Ideal s .f32) (i : s.Idx) :
    ∀ (l : List ι) (m : FVec Ideal s .f32), (l.foldl (fun s n => addf s (W n)) m) i = (m i : EReal) + (l.map fun n => (W n i : EReal)).sum
  | [], m => (add_zero _).symm
  | n :: l, m => by
    rw [List.foldl_cons, fold_add W i l, List.map_cons, List.sum_cons, ← add_assoc]
    rfl

theorem fold_max {s : Shape} {ι : Type} [DecidableEq ι] (W : ι → FVec Ideal s .f32) (i : s.Idx) :
    ∀ (l : List ι) (m : FVec Ideal s .f32), (l.foldl (fun s n => maximumf s (W n)) m) i = (m i : EReal) ⊔ l.toFinset.sup (fun n => (W n i : EReal))
  | [], m => (sup_bot_eq _).symm
  | n :: l, m => by
    rw [List.foldl_cons, fold_max W i l, List.toFinset_cons, Finset.sup_insert, ← sup_assoc]
    rfl

/-! ## The exponentials -/

theorem canon_own (w : Vec Ideal S1x2x16x1024 .f32) (P : List (View.Piece (Elt Ideal) S33x2x16x1024 .f32)) (n : Fin 33) (p : Fin 2) (r : Fin 16) (l : Fin 1024) :
    View.canon (⟨rectW n, w⟩ :: P) ((rectW n).emb (ix4 0 p r l)) = w (ix4 0 p r l) := View.canon_cons_emb _ _ _ _
theorem canon_other (k : Fin 33) (w : Vec Ideal S1x2x16x1024 .f32) (P : List (View.Piece (Elt Ideal) S33x2x16x1024 .f32)) (n : Fin 33) (h : k ≠ n) (p : Fin 2) (r : Fin 16) (l : Fin 1024) :
    View.canon (⟨rectW k, w⟩ :: P) ((rectW n).emb (ix4 0 p r l)) = View.canon P ((rectW n).emb (ix4 0 p r l)) :=
  View.canon_cons_of_not_mem ⟨rectW k, w⟩ P (rectW_off n _ k h)

section
variable (arg8 : Memref sig .tc .vmem S5x32x20x1024 .f32) (arg9 : Memref sig .tc .vmem S33x2x16x1024 .f32) (L : List (View.Piece (Elt Ideal) S33x2x16x1024 .f32)) (M : Vec Ideal S2x16x1024 .f32)
    (p : Fin 2) (r : Fin 16) (l : Fin 1024) (t : Fin 33 → EReal) (m : EReal)
    (hL : ∀ n, View.canon L ((rectW n).emb (ix4 0 p r l)) = t n) (hM : M (ix3 p r l) = m)
include hL hM

theorem exp_canon : ∀ (js : List (Fin 33)), js.Nodup → ∀ n : Fin 33,
    View.canon (expPieces arg9 L M js) ((rectW n).emb (ix4 0 p r l)) = if n ∈ js then Ideal.exp (t n - m) else t n
  | [], _, n => by rw [if_neg List.not_mem_nil]; exact hL n
  | k :: js, hk, n => by
    obtain ⟨h1, h2⟩ := List.nodup_cons.mp hk
    by_cases h : n = k
    · subst h
      rw [if_pos List.mem_cons_self]
      rw [expPieces]
      refine (canon_own _ _ n p r l).trans ((scW' _ p r l).trans ?_)
      show Ideal.exp (shapeCast S2x16x1024 (arg9.view.readCov (expPieces arg9 L M js) (rectW n).toLoadRect) shapeCasts_S1x2x16x1024_S2x16x1024 (ix3 p r l) - M (ix3 p r l)) = _
      rw [w_read, exp_canon js h2 n, if_neg h1, hM]
    · rw [expPieces]
      refine (canon_other k _ _ n (Ne.symm h) p r l).trans ((exp_canon js h2 n).trans ?_)
      by_cases hn : n ∈ js
      · rw [if_pos hn, if_pos (List.mem_cons_of_mem _ hn)]
      · rw [if_neg hn, if_neg (fun hm => (List.mem_cons.mp hm).elim h hn)]

theorem expFrom_at (js : List (Fin 33)) (h : js.Nodup) (n : Fin 33) (hn : n ∉ js) : expFrom arg9 (expPieces arg9 L M js) M n (ix3 p r l) = Ideal.exp (t n - m) := by
  show Ideal.exp (shapeCast S2x16x1024 (arg9.view.readCov (expPieces arg9 L M js) (rectW n).toLoadRect) shapeCasts_S1x2x16x1024_S2x16x1024 (ix3 p r l) - M (ix3 p r l)) = _
  rw [w_read, exp_canon arg9 L M p r l t m hL hM js h n, if_neg hn, hM]

theorem denFrom_at : ∀ (js : List (Fin 33)), js.Nodup → js ≠ [] → denFrom arg9 L M js (ix3 p r l) = (js.map fun n => Ideal.exp (t n - m)).sum
  | [], _, h => absurd rfl h
  | [n], _, _ => by
    rw [List.map_singleton, List.sum_singleton]
    exact expFrom_at arg9 L M p r l t m hL hM [] List.nodup_nil n List.not_mem_nil
  | n :: k :: js, hk, _ => by
    obtain ⟨h1, h2⟩ := List.nodup_cons.mp hk
    rw [List.map_cons, List.sum_cons, add_comm, ← denFrom_at (k :: js) h2 (List.cons_ne_nil _ _), ← expFrom_at arg9 L M p r l t m hL hM (k :: js) h2 n h1]
    rfl

/-! ## One block of results -/

omit hL hM in
theorem part_form (w : Vec Ideal S2x16x1024 .f32) (f : Vec Ideal S4x16x1024 .f32) (i : Fin 4) :
    mulf (F := Ideal) (φ := .f32) (over4 w) (broadcastTo S2x4x16x1024 (shapeCast S1x4x16x1024 f shapeCasts_S4x16x1024_S1x4x16x1024) broadcasts_S1x4x16x1024_S2x4x16x1024) (ix4 p i r l)
      = (w (ix3 p r l) : EReal) * f (ix3 i r l) := by
  pointwise [over4]

omit hL hM in
theorem recip_form (n : FVec Ideal S2x4x16x1024 .f32) (D : Vec Ideal S2x16x1024 .f32) (i : Fin 4) :
    mulf (F := Ideal) (φ := .f32) n (over4 (F := Ideal) (divf (F := Ideal) (φ := .f32) (broadcast S2x16x1024 (FloatOps.ofBits FTy.f32 1065353216#32)) (maximumf D (broadcast S2x16x1024 (FloatOps.ofBits FTy.f32 841731191#32))))) (ix4 p i r l)
      = Ideal.div (n (ix4 p i r l)) (max (D (ix3 p r l)) del) := by
  have h : mulf (F := Ideal) (φ := .f32) n (over4 (F := Ideal) (divf (F := Ideal) (φ := .f32) (broadcast S2x16x1024 (FloatOps.ofBits FTy.f32 1065353216#32)) (maximumf D (broadcast S2x16x1024 (FloatOps.ofBits FTy.f32 841731191#32))))) (ix4 p i r l)
      = (n (ix4 p i r l) : EReal) * Ideal.div (Ideal.ofBits FTy.f32 1065353216#32) (max (D (ix3 p r l)) (Ideal.ofBits FTy.f32 841731191#32)) := by
    pointwise [over4]
  have hp : 0 < max (D (ix3 p r l) : EReal) del := lt_max_of_lt_right del_pos
  rw [h, c_one]
  refine (congrArg (fun x : EReal => (n (ix4 p i r l) : EReal) * x) (div_pos hp)).trans ((congrArg (fun x : EReal => (n (ix4 p i r l) : EReal) * x) ?_).trans (div_pos hp).symm)
  rw [EReal.coe_one, one_mul]

/-- The offsets in the order the exponentials are stored, last first. -/
def down33 : List (Fin 33) := [32, 31, 30, 29, 28, 27, 26, 25, 24, 23, 22, 21, 20, 19, 18, 17, 16, 15, 14, 13, 12, 11, 10, 9, 8, 7, 6, 5, 4, 3, 2, 1, 0]
omit hL hM in
theorem down33_nodup : down33.Nodup := by decide +kernel
omit hL hM in
theorem down33_univ : down33.toFinset = Finset.univ := by decide +kernel
omit hL hM in
theorem visit_nodup : visit.Nodup := by decide +kernel
omit hL hM in
theorem visit_univ : visit.toFinset = Finset.univ := by decide +kernel

omit hL hM in
theorem sum_list (js : List (Fin 33)) (h : js.Nodup) (hu : js.toFinset = Finset.univ) (f : Fin 33 → EReal) : (js.map f).sum = ∑ n, f n := by
  rw [← hu, List.sum_toFinset f h]

theorem block_at (Lf : List (View.Piece (Elt Ideal) S5x32x20x1024 .f32)) (f : Fin 33 → EReal) (b : Fin 8) (i : Fin 4) (hf : ∀ n, featAt arg8 Lf n b (ix3 i r l) = f n) :
    block arg8 arg9 (expPieces arg9 L M down33) Lf (denFrom arg9 L M down33) b (ix4 p i r l)
      = Ideal.div (∑ n, Ideal.exp (t n - m) * f n) (max (∑ n, Ideal.exp (t n - m)) del) := by
  have hpart : ∀ n, part arg8 arg9 (expPieces arg9 L M down33) Lf b n (ix4 p i r l) = Ideal.exp (t n - m) * f n := fun n => by
    refine (part_form p r l _ _ i).trans ?_
    rw [w_read, exp_canon arg9 L M p r l t m hL hM down33 down33_nodup n, hf, if_pos (by rw [← List.mem_toFinset, down33_univ]; exact Finset.mem_univ n)]
  rw [block, recip_form p r l, denFrom_at arg9 L M p r l t m hL hM down33 down33_nodup (by decide), sum_list _ down33_nodup down33_univ]
  refine congrArg (fun x : EReal => Ideal.div x (max (∑ n, Ideal.exp (t n - m)) del)) ?_
  rw [fold_add, ← sum_list visit visit_nodup visit_univ]
  simp only [hpart]
  rfl
end

end Cert.Proof
end
-- ==== Proof.KBlock.lean ====
/- What one run of the kernel's body leaves in its output, at every place. -/
module

public import proofs.«01_k».proof.Proof.KLog
public import proofs.«01_k».proof.Proof.KSum

@[expose] public section

set_option maxRecDepth 16384

noncomputable section

namespace Cert.Proof

open Cert.KernelIdeal Cert.KernelIdeal.Gen Idealize.ShloMosaic Idealize.ShloMosaic.Pointwise

section
variable (I : Args) (c : Dev nD) (arg0 : Memref sig .tc .vmem S32x16x1024 .f32) (harg0 : arg0.IsWhole) (arg1 : Memref sig .tc .vmem S2x3x16x1024 .f32) (harg1 : arg1.IsWhole) (arg2 : Memref sig .tc .vmem S4x16x1024 .f32) (harg2 : arg2.IsWhole) (arg3 : Memref sig .tc .vmem S33x2x16 .f32) (harg3 : arg3.IsWhole) (arg4 : Memref sig .tc .vmem S33x1024 .f32) (harg4 : arg4.IsWhole) (arg5 : Memref sig .tc .vmem S33x1024 .f32) (harg5 : arg5.IsWhole) (arg6 : Memref sig .tc .vmem S2x32x16x1024 .f32) (harg6 : arg6.IsWhole) (arg7 : Memref sig .tc .vmem S5x7x20x1024 .f32) (harg7 : arg7.IsWhole) (arg8 : Memref sig .tc .vmem S5x32x20x1024 .f32) (harg8 : arg8.IsWhole) (arg9 : Memref sig .tc .vmem S33x2x16x1024 .f32) (harg9 : arg9.IsWhole) (arg10 : Memref sig .tc .vmem S2x16x1024 .f32) (harg10 : arg10.IsWhole)
    (x0 : Vec Ideal S32x16x1024 .f32) (x1 : Vec Ideal S2x3x16x1024 .f32) (x2 : Vec Ideal S4x16x1024 .f32) (x3 : Vec Ideal S33x2x16 .f32) (x4 : Vec Ideal S33x1024 .f32) (x5 : Vec Ideal S33x1024 .f32)
    (hI : Fed I x0 x1 x2 x3 x4 x5)
include hI

theorem maxW_at (p : Fin 2) (r : Fin 16) (l : Fin 1024) :
    maxW c arg1 harg1 arg2 harg2 arg3 harg3 arg4 harg4 arg5 harg5 arg7 arg10 x1 x2 x3 x4 x5 (ix3 p r l) = top I ⟨2 * r.val + p.val, by omega⟩ (yL l) (zL l) := by
  rw [← top_eq, maxW, fold_max]
  simp only [maskW_at I c arg1 harg1 arg2 harg2 arg3 harg3 arg4 harg4 arg5 harg5 arg7 arg10 x0 x1 x2 x3 x4 x5 hI]
  rw [← visit_univ, show visit = 10 :: visit.tail from rfl, List.toFinset_cons, Finset.sup_insert]
  rfl

theorem logs_at (p : Fin 2) (r : Fin 16) (l : Fin 1024) (n : Fin 33) :
    View.canon (logPieces c arg1 harg1 arg2 harg2 arg3 harg3 arg4 harg4 arg5 harg5 arg7 arg10 x1 x2 x3 x4 x5 visit.reverse) ((rectW n).emb (ix4 0 p r l))
      = T I ⟨2 * r.val + p.val, by omega⟩ (yL l) (zL l) (num n) := by
  refine (canon_map rectW (fun n => shapeCast S1x2x16x1024 (maskW c arg1 harg1 arg2 harg2 arg3 harg3 arg4 harg4 arg5 harg5 arg7 arg10 x1 x2 x3 x4 x5 n) shapeCasts_S2x16x1024_S1x2x16x1024)
    n (ix4 0 p r l) (rectW_off n _) visit.reverse ?_).trans ((scW' _ p r l).trans ?_)
  · rw [List.mem_reverse, ← List.mem_toFinset, visit_univ]; exact Finset.mem_univ n
  · exact maskW_at I c arg1 harg1 arg2 harg2 arg3 harg3 arg4 harg4 arg5 harg5 arg7 arg10 x0 x1 x2 x3 x4 x5 hI n p r l

/-- The body's output at one place. -/
theorem body_at (p : Fin 2) (ch : Fin 32) (r : Fin 16) (l : Fin 1024) :
    View.canon (kernelRun0_A c arg0 harg0 arg1 harg1 arg2 harg2 arg3 harg3 arg4 harg4 arg5 harg5 arg6 harg6 arg7 harg7 arg8 harg8 arg9 harg9 arg10 harg10 x0 x1 x2 x3 x4 x5).1 (ix4 p ch r l)
      = result I ch ⟨2 * r.val + p.val, by omega⟩ (yL l) (zL l) := by
  have hL := logs_at I c arg1 harg1 arg2 harg2 arg3 harg3 arg4 harg4 arg5 harg5 arg7 arg10 x0 x1 x2 x3 x4 x5 hI p r l
  have hM := maxW_at I c arg1 harg1 arg2 harg2 arg3 harg3 arg4 harg4 arg5 harg5 arg7 arg10 x0 x1 x2 x3 x4 x5 hI p r l
  have hb : 4 * (ch.val / 4) + ch.val % 4 = ch.val := by omega
  have hi : (ix4 p ch r l : S2x32x16x1024.Idx) = (rectO ⟨ch.val / 4, by omega⟩).emb (ix4 p ⟨ch.val % 4, by omega⟩ r l) := by
    funext j
    fin_cases j
    · exact Fin.ext (show p.val = 0 + 1 * p.val by omega)
    · exact Fin.ext (show ch.val = 4 * (ch.val / 4) + 1 * (ch.val % 4) by omega)
    · exact Fin.ext (show r.val = 0 + 1 * r.val by omega)
    · exact Fin.ext (show l.val = 0 + 1 * l.val by omega)
  rw [out_pieces, hi, feat_pieces, exp_pieces, run_den, run_max, log_pieces]
  refine (canon_map rectO _ ⟨ch.val / 4, by omega⟩ (ix4 p ⟨ch.val % 4, by omega⟩ r l) (rectO_off _ _) [7, 6, 5, 4, 3, 2, 1, 0] ?_).trans ?_
  · have : ∀ b : Fin 8, b ∈ ([7, 6, 5, 4, 3, 2, 1, 0] : List (Fin 8)) := by decide
    exact this _
  refine (block_at arg8 arg9 _ _ p r l _ _ hL hM _ _ _ _ (fun n => featAt_at arg0 harg0 x0 arg8 n _ _ r l)).trans ?_
  unfold result
  have hh : half ⟨2 * r.val + p.val, by omega⟩ = r := Fin.ext (by show (2 * r.val + p.val) / 2 = r.val; omega)
  have hc : (⟨4 * (ch.val / 4) + ch.val % 4, by omega⟩ : Fin 32) = ch := Fin.ext hb
  rw [← sum_num', ← sum_num I _ _ _ (fun j => I.feat ch (cl (half ⟨2 * r.val + p.val, by omega⟩) (dA j)) (cl (half (yL l)) (dB j)) (cl (half (zL l)) (dC j)))]
  refine congrArg (fun x : EReal => Ideal.div x (max (∑ n, ew I ⟨2 * r.val + p.val, by omega⟩ (yL l) (zL l) (num n)) del)) (Finset.sum_congr rfl fun n _ => ?_)
  obtain ⟨e0, e1, e2⟩ := num_digits n
  rw [e0, e1, e2, hI.feat, kyL_mk, kzL_mk, hh, half_yL, half_zL]
  show _ * I.feat ⟨4 * (ch.val / 4) + ch.val % 4, _⟩ _ _ _ = _
  rw [hc]
  rfl
end

end Cert.Proof
end
-- ==== Proof.KHost.lean ====
/- What the kernel's operands hold when its body starts, in terms of the program's arguments. -/
module

public import proofs.«01_k».proof.Proof.KBlock
public import Idealize.ShloMosaic.Lib.Pipeline.ValueKit

@[expose] public section

set_option maxRecDepth 16384

noncomputable section

namespace Cert.Proof

open Cert.KernelIdeal Cert.KernelIdeal.Gen Idealize.ShloMosaic Idealize.ShloMosaic.TcCoe Idealize.ShloMosaic.Pointwise

variable (m : (ℓ : Loc nD τ sig) → Buf (Elt Ideal) ℓ) (c : Dev nD)

/-- The kernel's arguments. -/
def kerArgs : Args where
  feat ch x y z := m ((c : Thread nD τ).loc main_arg0) (ix5 0 ch x y z)
  guide g X Y Z := m ((c : Thread nD τ).loc main_arg1) (ix5 0 g X Y Z)
  raw i x y z := match i with
    | 0 => m ((c : Thread nD τ).loc main_arg2) (ix5 0 0 x y z)
    | 1 => m ((c : Thread nD τ).loc main_arg3) (ix5 0 0 x y z)
    | 2 => m ((c : Thread nD τ).loc main_arg4) (ix5 0 0 x y z)
    | 3 => m ((c : Thread nD τ).loc main_arg5) (ix5 0 0 x y z)

/-- Every operand is one whole block. -/
theorem at_zero : ∀ t : Fin cfg0.N, win0_0.index t = ![0, 0, 0] ∧ win0_1.index t = ![0, 0, 0, 0] ∧ win0_2.index t = ![0, 0, 0]
    ∧ win0_3.index t = ![0, 0, 0] ∧ win0_4.index t = ![0, 0] ∧ win0_5.index t = ![0, 0] ∧ win0_6.index t = ![0, 0, 0, 0] :=
  (by decide +kernel : ∀ t : Fin grid0.N, _)

theorem v3_at (ch : Fin 32) (r : Fin 16) (l : Fin 1024) :
    (V m c main_v3 : Vec Ideal S32x16x1024 .f32) (ix3 ch r l) = m ((c : Thread nD τ).loc main_arg0) (ix5 0 ch r (kyL l) (kzL l)) := by
  simp only [V, V0, hostOps0, List.flatten_cons, List.flatten_nil, List.append_nil, List.cons_append, List.nil_append, StableHlo.after_cons, StableHlo.after_nil]
  after_results_simp
  pointwise
  rfl

theorem v6_at (p : Fin 2) (g : Fin 3) (r : Fin 16) (l : Fin 1024) :
    (V m c main_v6 : Vec Ideal S2x3x16x1024 .f32) (ix4 p g r l) = m ((c : Thread nD τ).loc main_arg1) (ix5 0 g ⟨2 * r.val + p.val, by omega⟩ (yL l) (zL l)) := by
  simp only [V, V0, hostOps0, List.flatten_cons, List.flatten_nil, List.append_nil, List.cons_append, List.nil_append, StableHlo.after_cons, StableHlo.after_nil]
  after_results_simp
  pointwise
  exact congrArg (fun X : Fin 32 => (m (c, Proc.tc.devRef main_arg1) : Vec Ideal S1x3x32x32x32 .f32) (ix5 0 g X (yL l) (zL l))) (Fin.ext (by show r.val * 2 + p.val = 2 * r.val + p.val; omega))

theorem v14_at (i : Fin 4) (r : Fin 16) (l : Fin 1024) :
    (V m c main_v14 : Vec Ideal S4x16x1024 .f32) (ix3 i r l) = (kerArgs m c).raw i r (kyL l) (kzL l) := by
  simp only [V, V0, hostOps0, List.flatten_cons, List.flatten_nil, List.append_nil, List.cons_append, List.nil_append, StableHlo.after_cons, StableHlo.after_nil]
  after_results_simp
  pointwise
  after_results_simp
  pointwise
  fin_cases i <;> rfl

theorem cst_at (n : Fin 33) (p : Fin 2) (r : Fin 16) :
    (V m c main_cst : Vec Ideal S33x2x16 .f32) (ix3 n p r) = FloatOps.ofBits (F := Ideal) .f32 (lit0 (S33x2x16.rowMajor (ix3 n p r))) := by
  simp only [V, V0, hostOps0, List.flatten_cons, List.flatten_nil, List.append_nil, List.cons_append, List.nil_append, StableHlo.after_cons, StableHlo.after_nil]
  after_results_simp

theorem cst0_at (n : Fin 33) (l : Fin 1024) :
    (V m c main_cst_0 : Vec Ideal S33x1024 .f32) (ix2 n l) = FloatOps.ofBits (F := Ideal) .f32 (lit1 (S33x1024.rowMajor (ix2 n l))) := by
  simp only [V, V0, hostOps0, List.flatten_cons, List.flatten_nil, List.append_nil, List.cons_append, List.nil_append, StableHlo.after_cons, StableHlo.after_nil]
  after_results_simp

theorem cst1_at (n : Fin 33) (l : Fin 1024) :
    (V m c main_cst_1 : Vec Ideal S33x1024 .f32) (ix2 n l) = FloatOps.ofBits (F := Ideal) .f32 (lit2 (S33x1024.rowMajor (ix2 n l))) := by
  simp only [V, V0, hostOps0, List.flatten_cons, List.flatten_nil, List.append_nil, List.cons_append, List.nil_append, StableHlo.after_cons, StableHlo.after_nil]
  after_results_simp

theorem blk0 (t : Fin cfg0.N) (ch : Fin 32) (r : Fin 16) (l : Fin 1024) :
    iblk m c 0 t (ix3 ch r l) = (V m c main_v3 : Vec Ideal S32x16x1024 .f32) (ix3 ch r l) := by
  blk_ext [iblk, at_zero t]
theorem blk1 (t : Fin cfg0.N) (p : Fin 2) (g : Fin 3) (r : Fin 16) (l : Fin 1024) :
    iblk m c 1 t (ix4 p g r l) = (V m c main_v6 : Vec Ideal S2x3x16x1024 .f32) (ix4 p g r l) := by
  blk_ext [iblk, at_zero t]
theorem blk2 (t : Fin cfg0.N) (i : Fin 4) (r : Fin 16) (l : Fin 1024) :
    iblk m c 2 t (ix3 i r l) = (V m c main_v14 : Vec Ideal S4x16x1024 .f32) (ix3 i r l) := by
  blk_ext [iblk, at_zero t]
theorem blk3 (t : Fin cfg0.N) (n : Fin 33) (p : Fin 2) (r : Fin 16) :
    iblk m c 3 t (ix3 n p r) = (V m c main_cst : Vec Ideal S33x2x16 .f32) (ix3 n p r) := by
  blk_ext [iblk, at_zero t]
theorem blk4 (t : Fin cfg0.N) (n : Fin 33) (l : Fin 1024) :
    iblk m c 4 t (ix2 n l) = (V m c main_cst_0 : Vec Ideal S33x1024 .f32) (ix2 n l) := by
  blk_ext [iblk, at_zero t]
theorem blk5 (t : Fin cfg0.N) (n : Fin 33) (l : Fin 1024) :
    iblk m c 5 t (ix2 n l) = (V m c main_cst_1 : Vec Ideal S33x1024 .f32) (ix2 n l) := by
  blk_ext [iblk, at_zero t]

end Cert.Proof
end
-- ==== Proof.KTab.lean ====
/- The three tables of squared distances the kernel carries. -/
module

public import proofs.«01_k».proof.Proof.KForm
public import proofs.«01_k».proof.Proof.KShift
public import proofs.«01_k».proof.Proof.Spec

@[expose] public section

set_option maxRecDepth 16384

noncomputable section

namespace Cert.Proof

open Cert.KernelIdeal Cert.KernelIdeal.Gen Idealize.ShloMosaic Idealize.ShloMosaic.Pointwise

/-- The five values a squared distance takes: a quarter of an odd square. -/
def oddWord : Fin 5 → BitVec 32 := ![0x3E800000#32, 0x40100000#32, 0x40C80000#32, 0x41440000#32, 0x41A20000#32]

/-- Twice a distance: an odd number. -/
abbrev dst2 (X : Fin 32) (d : Fin 5) : ℤ := 2 * (X.val : ℤ) - 4 * (cl (half X) d).val - 1

theorem oddWord_val : ∀ k : Fin 5, Ideal.ofBits FTy.f32 (oddWord k) = (((2 * (k.val : ℝ) + 1) * (2 * (k.val : ℝ) + 1) / 4 : ℝ) : EReal)
  | 0 => by show Ideal.ofBits FTy.f32 0x3E800000#32 = _; simp [Ideal.ofBits, Ideal.ieee, -EReal.coe_mul]; norm_num
  | 1 => by show Ideal.ofBits FTy.f32 0x40100000#32 = _; simp [Ideal.ofBits, Ideal.ieee, -EReal.coe_mul]; norm_num
  | 2 => by show Ideal.ofBits FTy.f32 0x40C80000#32 = _; simp [Ideal.ofBits, Ideal.ieee, -EReal.coe_mul]; norm_num
  | 3 => by show Ideal.ofBits FTy.f32 0x41440000#32 = _; simp [Ideal.ofBits, Ideal.ieee, -EReal.coe_mul]; norm_num
  | 4 => by show Ideal.ofBits FTy.f32 0x41A20000#32 = _; simp [Ideal.ofBits, Ideal.ieee, -EReal.coe_mul]; norm_num

/-- A word that is the entry for an odd number is that distance squared. -/
theorem entry_val (X : Fin 32) (d : Fin 5) (w : BitVec 32) (h : ∃ k : Fin 5, w = oddWord k ∧ (dst2 X d).natAbs = 2 * k.val + 1) :
    Ideal.ofBits FTy.f32 w = (dst X d : EReal) * (dst X d : EReal) := by
  obtain ⟨k, rfl, hk⟩ := h
  rw [oddWord_val, ← EReal.coe_mul]
  have h2 : ((dst2 X d : ℤ) : ℝ) * (dst2 X d : ℤ) = (2 * (k.val : ℝ) + 1) * (2 * (k.val : ℝ) + 1) := by
    rw [← Int.cast_mul, ← Int.natAbs_mul_self' (dst2 X d), hk]; push_cast; ring
  have h3 : dst X d = ((dst2 X d : ℤ) : ℝ) / 2 := rfl
  rw [h3]
  exact congrArg Real.toEReal (by rw [← h2]; ring)

/-- The entry for a coordinate and a step, in natural numbers: the five words side by side, the right one cut out. -/
def wordN (X d : ℕ) : ℕ :=
  374697120912464425956531864231630502544522870784 / 2 ^ (32 * (((2 * X - (4 * (15 - (15 - (X / 2 + d - 2))) + 1)) + ((4 * (15 - (15 - (X / 2 + d - 2))) + 1) - 2 * X)) / 2)) % 4294967296

theorem wordN_entry : ∀ (X : Fin 32) (d : Fin 5), ∃ k : Fin 5, wordN X.val d.val = (oddWord k).toNat ∧ (dst2 X d).natAbs = 2 * k.val + 1 := by
  decide +kernel

/-- A word that is the number for a coordinate and a step is that distance squared. -/
theorem word_val (X : Fin 32) (d : Fin 5) (w : BitVec 32) (h : w.toNat = wordN X.val d.val) :
    FloatOps.ofBits (F := Ideal) FTy.f32 w = (dst X d : EReal) * (dst X d : EReal) := by
  obtain ⟨k, hk, hd⟩ := wordN_entry X d
  exact entry_val X d w ⟨k, BitVec.eq_of_toNat_eq (h.trans hk), hd⟩

theorem entry0 : ∀ (n : Fin 33) (p : Fin 2) (r : Fin 16),
    (lit0 ⟨n.val * 32 + p.val * 16 + r.val, by omega⟩).toNat = wordN (2 * r.val + p.val) (offX n).val := by
  decide +kernel

theorem tab0 (n : Fin 33) (p : Fin 2) (r : Fin 16) : FloatOps.ofBits (F := Ideal) .f32 (lit0 (S33x2x16.rowMajor (ix3 n p r)))
    = (dst ⟨2 * r.val + p.val, by omega⟩ (offX n) : EReal) * (dst ⟨2 * r.val + p.val, by omega⟩ (offX n) : EReal) := by
  rw [show S33x2x16.rowMajor (ix3 n p r) = ⟨n.val * 32 + p.val * 16 + r.val, by show _ < 1056; omega⟩ from
    Fin.ext (by rw [rowMajor_val3 _ 32 16 rfl rfl]; rfl)]
  exact word_val ⟨2 * r.val + p.val, by omega⟩ _ _ (entry0 n p r)

end Cert.Proof
end
-- ==== Proof.KTabY.lean ====
/- The table of squared distances along the second axis. -/
module

public import proofs.«01_k».proof.Proof.KTab

@[expose] public section

set_option maxRecDepth 16384

noncomputable section

namespace Cert.Proof

open Cert.KernelIdeal Cert.KernelIdeal.Gen Idealize.ShloMosaic Idealize.ShloMosaic.Pointwise

set_option maxHeartbeats 4000000 in
theorem entryY : ∀ (n : Fin 33) (Y Z : Fin 32), (lit1 ⟨n.val * 1024 + (32 * Y.val + Z.val), by omega⟩).toNat = wordN Y.val (offY n).val := by
  intro n
  fin_cases n <;> decide +kernel

theorem tabY (n : Fin 33) (l : Fin 1024) : FloatOps.ofBits (F := Ideal) .f32 (lit1 (S33x1024.rowMajor (ix2 n l)))
    = (dst (yL l) (offY n) : EReal) * (dst (yL l) (offY n) : EReal) := by
  rw [show S33x1024.rowMajor (ix2 n l) = ⟨n.val * 1024 + (32 * (yL l).val + (zL l).val), by show _ < 33792; omega⟩ from
    Fin.ext (by rw [rowMajor_val2 _ 1024 rfl]; show n.val * 1024 + l.val = n.val * 1024 + (32 * (l.val / 32) + l.val % 32); omega)]
  exact word_val _ _ _ (entryY n _ _)

end Cert.Proof
end
-- ==== Proof.KTabZ.lean ====
/- The table of squared distances along the third axis. -/
module

public import proofs.«01_k».proof.Proof.KTab

@[expose] public section

set_option maxRecDepth 16384

noncomputable section

namespace Cert.Proof

open Cert.KernelIdeal Cert.KernelIdeal.Gen Idealize.ShloMosaic Idealize.ShloMosaic.Pointwise

set_option maxHeartbeats 4000000 in
theorem entryZ : ∀ (n : Fin 33) (Y Z : Fin 32), (lit2 ⟨n.val * 1024 + (32 * Y.val + Z.val), by omega⟩).toNat = wordN Z.val (offZ n).val := by
  intro n
  fin_cases n <;> decide +kernel

theorem tabZ (n : Fin 33) (l : Fin 1024) : FloatOps.ofBits (F := Ideal) .f32 (lit2 (S33x1024.rowMajor (ix2 n l)))
    = (dst (zL l) (offZ n) : EReal) * (dst (zL l) (offZ n) : EReal) := by
  rw [show S33x1024.rowMajor (ix2 n l) = ⟨n.val * 1024 + (32 * (yL l).val + (zL l).val), by show _ < 33792; omega⟩ from
    Fin.ext (by rw [rowMajor_val2 _ 1024 rfl]; show n.val * 1024 + l.val = n.val * 1024 + (32 * (l.val / 32) + l.val % 32); omega)]
  exact word_val _ _ _ (entryZ n _ _)

end Cert.Proof
end
-- ==== Proof.KRun.lean ====
/- What the kernel's program leaves in its result. -/
module

public import proofs.«01_k».proof.Proof.KHost
public import proofs.«01_k».proof.Proof.KTab
public import proofs.«01_k».proof.Proof.Gen.KernelIdeal.Frame
public import proofs.«01_k».proof.Proof.KTabY
public import proofs.«01_k».proof.Proof.KTabZ

@[expose] public section

set_option maxRecDepth 16384

noncomputable section

namespace Cert.Proof

open Cert.KernelIdeal Cert.KernelIdeal.Gen Idealize.ShloMosaic Idealize.ShloMosaic.TcCoe Idealize.ShloMosaic.Pointwise

variable (m : (ℓ : Loc nD τ sig) → Buf (Elt Ideal) ℓ) (c : Dev nD)

/-- The operands are the arguments laid out, and the tables. -/
theorem fed (t : Fin cfg0.N) : Fed (kerArgs m c) (iblk m c 0 t) (iblk m c 1 t) (iblk m c 2 t) (iblk m c 3 t) (iblk m c 4 t) (iblk m c 5 t) where
  feat ch r l := (blk0 m c t ch r l).trans (v3_at m c ch r l)
  guide p g r l := (blk1 m c t p g r l).trans (v6_at m c p g r l)
  raw i r l := (blk2 m c t i r l).trans (v14_at m c i r l)
  dx n p r := (blk3 m c t n p r).trans ((cst_at m c n p r).trans (tab0 n p r))
  dy n l := (blk4 m c t n l).trans ((cst0_at m c n l).trans (tabY n l))
  dz n l := (blk5 m c t n l).trans ((cst1_at m c n l).trans (tabZ n l))

/-- The result in the kernel's layout. -/
def laid (I : Args) : Vec Ideal S2x32x16x1024 .f32 := fun y =>
  result I (y 1) ⟨2 * (y 2).val + (y 0).val, by have h2 : (y 2).val < 16 := (y 2).isLt; have h0 : (y 0).val < 2 := (y 0).isLt; omega⟩ (yL (y 3)) (zL (y 3))

theorem outs_at (t : Fin cfg0.N) (y : S2x32x16x1024.Idx) : outsAt0 m c t y = laid (kerArgs m c) y := by
  have hy : y = ix4 (y 0) (y 1) (y 2) (y 3) := by funext j; fin_cases j <;> rfl
  unfold outsAt0 out0_A_6
  rw [View.read_writes_junk_eq_canon, hy]
  exact body_at (kerArgs m c) c _ _ _ _ _ _ _ _ _ _ _ _ _ _ _ _ _ _ _ _ _ _ _ _ _ _ _ _ (fed m c t) (y 0) (y 1) (y 2) (y 3)

/-- The kernel's output array. -/
theorem out_array : (dats m 0 c).arrAt 6 cfg0.N = laid (kerArgs m c) := by
  refine (dats m 0 c).arrAt_eq_of_covers 6 _ (by decide +kernel) fun t hf y => ?_
  blk_simp
  rw [after0_6]
  refine (outs_at m c t _).trans (congrArg (laid (kerArgs m c)) ?_)
  blk_ext [at_zero t]

/-- The program's result. -/
def final (I : Args) : Vec Ideal S1x32x32x32x32 .f32 := fun y => result I (y 1) (y 2) (y 3) (y 4)

theorem tail_at (v : Vec Ideal S2x32x16x1024 .f32) (I : Args) (hv : v = laid I) :
    broadcastInDim S1x32x32x32x32 ![1, 2, 3, 4] bcast_S32x32x32x32_S1x32x32x32x32_1_2_3_4
      (shapeCast S32x32x32x32 (transpose S32x16x2x1024 [1, 2, 0, 3] v transposes_S2x32x16x1024_S32x16x2x1024_1_2_0_3) shapeCasts_S32x16x2x1024_S32x32x32x32)
      = final I := by
  funext y
  obtain ⟨b, ch, X, Y, Z, rfl⟩ : ∃ (b : Fin 1) (ch X Y Z : Fin 32), y = ix5 b ch X Y Z := ⟨y 0, y 1, y 2, y 3, y 4, by funext j; fin_cases j <;> rfl⟩
  subst hv
  pointwise
  show result I ch ⟨2 * (X.val / 2) + X.val % 2, _⟩ (yL ⟨Y.val * 32 + Z.val, _⟩) (zL ⟨Y.val * 32 + Z.val, _⟩) = result I ch X Y Z
  congr 1
  · exact Fin.ext (by show 2 * (X.val / 2) + X.val % 2 = X.val; omega)
  · exact Fin.ext (by show (Y.val * 32 + Z.val) / 32 = Y.val; omega)
  · exact Fin.ext (by show (Y.val * 32 + Z.val) % 32 = Z.val; omega)

theorem tail_val (W : Valuation τ sig (Elt Ideal)) : StableHlo.after (List.flatten [hostOps1]) W (Proc.devRef .tc main_v18)
    = broadcastInDim S1x32x32x32x32 ![1, 2, 3, 4] bcast_S32x32x32x32_S1x32x32x32x32_1_2_3_4
      (shapeCast S32x32x32x32 (transpose S32x16x2x1024 [1, 2, 0, 3] (W (Proc.devRef .tc main_v15) : Vec Ideal S2x32x16x1024 .f32) transposes_S2x32x16x1024_S32x16x2x1024_1_2_0_3) shapeCasts_S32x16x2x1024_S32x32x32x32) := by
  simp only [hostOps1, List.flatten_cons, List.flatten_nil, List.append_nil, List.cons_append, List.nil_append, StableHlo.after_cons, StableHlo.after_nil]
  after_results_simp
  rfl

theorem result_eq : Pipeline.afterTail₀ cfgs (dats m) 0 (V0 m) [hostOps1] c main_v18 = final (kerArgs m c) := by
  unfold Pipeline.afterTail₀
  refine (tail_val _).trans (tail_at _ (kerArgs m c) ?_)
  exact (Pipeline.withArrays_arr spec0 winFacts0.arr_inj c (V0 m c) (fun w => (dats m 0 c).arrAt w cfg0.N) 6).trans (out_array m c)

end Cert.Proof
end
-- ==== Proof.Ref.lean ====
/- The reference's stages read at an index, down to the result of `Spec`. -/
module

public import proofs.«01_k».proof.Proof.Spec
public import proofs.«01_k».proof.Proof.Gen.ReferenceIdeal.Run

@[expose] public section

set_option maxRecDepth 16384

noncomputable section

namespace Cert.Proof

open Cert.ReferenceIdeal Cert.ReferenceIdeal.Gen Idealize.ShloMosaic Cert.ReferenceIdeal.Value Idealize.ShloMosaic.Pointwise Idealize.ShloMosaic.StableHlo

variable (V0 : Valuation τ sig (Elt Ideal))

/-- The reference's arguments. -/
def refArgs : Args where
  feat ch x y z := V0 (Proc.devRef .tc main_arg0) (ix5 0 ch x y z)
  guide g X Y Z := V0 (Proc.devRef .tc main_arg1) (ix5 0 g X Y Z)
  raw i x y z := match i with
    | 0 => V0 (Proc.devRef .tc main_arg2) (ix5 0 0 x y z)
    | 1 => V0 (Proc.devRef .tc main_arg3) (ix5 0 0 x y z)
    | 2 => V0 (Proc.devRef .tc main_arg4) (ix5 0 0 x y z)
    | 3 => V0 (Proc.devRef .tc main_arg5) (ix5 0 0 x y z)

/-! ## Words and reals -/

theorem word_nat : ∀ n : Fin 64, (BitVec.ofNat 32 n.val).toInt = (n.val : ℤ) := by decide
theorem si (n : ℕ) (h : n < 64) : FloatOps.sitofp (F := Ideal) FTy.f32 (BitVec.ofNat 32 n) = ((n : ℝ) : EReal) := by
  show (((BitVec.ofNat 32 n).toInt : ℝ) : EReal) = _
  rw [word_nat ⟨n, h⟩]
  norm_cast

theorem cmax (a b : ℝ) : max (a : EReal) b = ((max a b : ℝ) : EReal) := (EReal.coe_strictMono.monotone.map_max).symm
theorem cmin (a b : ℝ) : min (a : EReal) b = ((min a b : ℝ) : EReal) := (EReal.coe_strictMono.monotone.map_min).symm
theorem cabs (a : ℝ) : FloatOps.absf (F := Ideal) (φ := FTy.f32) ((a : ℝ) : EReal) = ((|a| : ℝ) : EReal) := by
  show max (a : EReal) (-(a : EReal)) = _
  rw [← EReal.coe_neg, cmax]
  rfl

theorem coe_sum {ι : Type} (s : Finset ι) (f : ι → ℝ) : ∑ i ∈ s, ((f i : ℝ) : EReal) = ((∑ i ∈ s, f i : ℝ) : EReal) := by
  classical
  induction s using Finset.induction with
  | empty => simp
  | insert a s h ih => rw [Finset.sum_insert h, Finset.sum_insert h, ih, EReal.coe_add]

theorem cdiv (a : ℝ) {b : ℝ} (h : b ≠ 0) : Ideal.div (a : EReal) (b : EReal) = ((a / b : ℝ) : EReal) := by
  rw [Ideal.div_coe h, ← EReal.coe_mul, mul_one_div]

/-- A fine place's coarse place as rounding finds it. -/
theorem round_half (X : Fin 32) : Ideal.roundHalfEven (((X.val : ℝ) + 1 / 2) / 2 - 1 / 2) = ((half X).val : ℤ) := by
  have hX : X.val = 2 * (X.val / 2) + X.val % 2 := by omega
  have hp : X.val % 2 = 0 ∨ X.val % 2 = 1 := by omega
  have hv : ((half X).val : ℤ) = ((X.val / 2 : ℕ) : ℤ) := rfl
  rw [hv]
  generalize X.val / 2 = k at *
  unfold Ideal.roundHalfEven
  rcases hp with h | h <;> rw [h] at hX <;> rw [hX] <;> push_cast
  · have hf : ⌊(2 * (k : ℝ) + 0 + 1 / 2) / 2 - 1 / 2⌋ = (k : ℤ) - 1 := by
      rw [Int.floor_eq_iff]; push_cast; constructor <;> linarith
    simp only [hf]
    rw [if_neg (by push_cast; linarith), if_pos (by push_cast; linarith)]
    omega
  · have hf : ⌊(2 * (k : ℝ) + 1 + 1 / 2) / 2 - 1 / 2⌋ = (k : ℤ) := by
      rw [Int.floor_eq_iff]; push_cast; constructor <;> linarith
    simp only [hf]
    rw [if_pos (by push_cast; linarith)]

theorem coarse_word (X : Fin 32) : FloatOps.fptosi (F := Ideal) (φ := FTy.f32) 32
    (min (FloatOps.sitofp (F := Ideal) FTy.f32 15#32) (max (FloatOps.sitofp (F := Ideal) FTy.f32 0#32)
      (Ideal.liftRound Ideal.roundHalfEven (Ideal.div ((((X.val : ℕ) : ℝ) : EReal) + Ideal.ofBits FTy.f32 1056964608#32) (Ideal.ofBits FTy.f32 1073741824#32) - Ideal.ofBits FTy.f32 1056964608#32))))
      = BitVec.ofNat 32 (half X).val := by
  rw [c_half, c_two, ← EReal.coe_add, cdiv _ (by norm_num), ← EReal.coe_sub]
  show FloatOps.fptosi (F := Ideal) (φ := FTy.f32) 32 (min (FloatOps.sitofp (F := Ideal) FTy.f32 (BitVec.ofNat 32 15)) (max (FloatOps.sitofp (F := Ideal) FTy.f32 (BitVec.ofNat 32 0)) (((Ideal.roundHalfEven _ : ℤ) : ℝ) : EReal))) = _
  rw [round_half, si 15 (by norm_num), si 0 (by norm_num), cmax, cmin]
  have hk : (half X).val ≤ 15 := by have := (half X).isLt; omega
  have e : min ((15 : ℕ) : ℝ) (max ((0 : ℕ) : ℝ) (((half X).val : ℤ) : ℝ)) = (((half X).val : ℕ) : ℝ) := by
    push_cast
    rw [max_eq_right (by positivity), min_eq_right (by exact_mod_cast hk)]
  rw [e]
  show BitVec.ofInt 32 (max _ (min _ (if 0 ≤ (((half X).val : ℕ) : ℝ) then ⌊(((half X).val : ℕ) : ℝ)⌋ else _))) = _
  rw [if_pos (by positivity), Int.floor_natCast]
  generalize (half X).val = k at *
  interval_cases k <;> rfl

theorem clamp_word : ∀ (k : Fin 16) (d : Fin 5), IntOp.minsi 15#32 (IntOp.maxsi 0#32 (IntOp.addi (BitVec.ofNat 32 k.val) (BitVec.ofInt 32 (d.val - 2)))) = BitVec.ofNat 32 (cl k d).val := by
  decide +kernel

theorem flat_word : ∀ x y z : Fin 16, IntOp.addi (IntOp.addi (IntOp.muli (BitVec.ofNat 32 x.val) 256#32) (IntOp.muli (BitVec.ofNat 32 y.val) 16#32)) (BitVec.ofNat 32 z.val)
    = BitVec.ofNat 32 (256 * x.val + 16 * y.val + z.val) := by
  decide +kernel

/-! ## Coordinates -/

theorem at_v7 (X Y Z : Fin 32) : res_main_v7 V0 (ix3 X Y Z) = ((X.val : ℝ) : EReal) := by
  pointwise [res_main_v7]
  exact si _ (by omega)
theorem at_v8 (X Y Z : Fin 32) : res_main_v8 V0 (ix3 X Y Z) = ((Y.val : ℝ) : EReal) := by
  pointwise [res_main_v8]
  exact si _ (by omega)
theorem at_v9 (X Y Z : Fin 32) : res_main_v9 V0 (ix3 X Y Z) = ((Z.val : ℝ) : EReal) := by
  pointwise [res_main_v9]
  exact si _ (by omega)

/-! ## The weights of the resizings -/

theorem at_v59 (X : Fin 32) (x : Fin 16) : res_main_v59 V0 (ix2 X x) = (((triU X x : ℝ) / 4 : ℝ) : EReal) := by
  pointwise [res_main_v59]
  rw [c_half, si _ (by omega), si _ (by omega), ← EReal.coe_add, ← EReal.coe_mul, ← EReal.coe_sub, ← EReal.coe_sub, cabs, ← EReal.coe_one, cdiv _ one_ne_zero,
    ← EReal.coe_sub, ← EReal.coe_zero, cmax]
  congr 1
  unfold triU
  push_cast
  rw [show ((X.val : ℝ) + 1 / 2) * (1 / 2) - 1 / 2 - (x.val : ℝ) = (2 * (X.val : ℝ) - 1 - 4 * (x.val : ℝ)) / 4 by ring, abs_div, abs_of_pos (by norm_num : (0 : ℝ) < 4),
    max_div_div_right (by norm_num : (0:ℝ) ≤ 4) _ _ |>.symm]
  congr 1
  · ring
  · norm_num

theorem at_v63 (X : Fin 32) (x : Fin 16) : res_main_v63 V0 (ix2 X x) = (wU X x : EReal) := by
  pointwise [res_main_v63]
  simp only [at_v59]
  rw [show (∑ i, (((triU X i : ℝ) / 4 : ℝ) : EReal)) = (((sumU X : ℝ) / 4 : ℝ) : EReal) by
    rw [coe_sum, ← Finset.sum_div]; congr 2; rw [← sum_triU]; push_cast; rfl]
  have := sumU_pos X
  rw [cdiv _ (by positivity)]
  congr 1
  unfold wU
  field_simp

theorem at_v225 (x : Fin 16) (X : Fin 32) : res_main_v225 V0 (ix2 x X) = (((triD x X : ℝ) / 4 : ℝ) : EReal) := by
  pointwise [res_main_v225]
  rw [c_half, c_two, si _ (by omega), si _ (by omega), ← EReal.coe_add, ← EReal.coe_mul, ← EReal.coe_sub, ← EReal.coe_sub, cabs, ← EReal.coe_one, cdiv _ two_ne_zero,
    ← EReal.coe_sub, ← EReal.coe_zero, cmax]
  congr 1
  unfold triD
  push_cast
  rw [show ((x.val : ℝ) + 1 / 2) * 2 - 1 / 2 - (X.val : ℝ) = (4 * (x.val : ℝ) + 1 - 2 * (X.val : ℝ)) / 2 by ring, abs_div, abs_of_pos (by norm_num : (0 : ℝ) < 2),
    max_div_div_right (by norm_num : (0:ℝ) ≤ 4) _ _ |>.symm]
  congr 1
  · ring
  · norm_num

theorem at_v229 (x : Fin 16) (X : Fin 32) : res_main_v229 V0 (ix2 x X) = (wD x X : EReal) := by
  pointwise [res_main_v229]
  simp only [at_v225]
  rw [show (∑ i, (((triD x i : ℝ) / 4 : ℝ) : EReal)) = (((sumD x : ℝ) / 4 : ℝ) : EReal) by
    rw [coe_sum, ← Finset.sum_div]; congr 2; rw [← sum_triD]; push_cast; rfl]
  have := sumD_pos x
  rw [cdiv _ (by positivity)]
  congr 1
  unfold wD
  field_simp

/-! ## Offsets and places -/

theorem at_v78 (j : Fin 125) : res_main_v78 V0 (ix1 j) = BitVec.ofInt 32 ((dA j).val - 2) := by
  pointwise [res_main_v78, res_main_v74]
  exact (by decide +kernel : ∀ j : Fin 125, (IntOp.addi (4294967294#32) (BitVec.ofNat 32 (j.val / 25)) : BitVec 32) = BitVec.ofInt 32 ((dA j).val - 2)) j
theorem at_v79 (j : Fin 125) : res_main_v79 V0 (ix1 j) = BitVec.ofInt 32 ((dB j).val - 2) := by
  pointwise [res_main_v79, res_main_v74]
  exact (by decide +kernel : ∀ j : Fin 125, (IntOp.addi (4294967294#32) (BitVec.ofNat 32 (j.val / 5 % 5)) : BitVec 32) = BitVec.ofInt 32 ((dB j).val - 2)) j
theorem at_v80 (j : Fin 125) : res_main_v80 V0 (ix1 j) = BitVec.ofInt 32 ((dC j).val - 2) := by
  pointwise [res_main_v80, res_main_v74]
  exact (by decide +kernel : ∀ j : Fin 125, (IntOp.addi (4294967294#32) (BitVec.ofNat 32 (j.val % 5)) : BitVec 32) = BitVec.ofInt 32 ((dC j).val - 2)) j

theorem at_v86 (j : Fin 125) (X Y Z : Fin 32) : res_main_v86 V0 (ix4 j X Y Z) = BitVec.ofNat 32 (cl (half X) (dA j)).val := by
  pointwise [res_main_v86]
  rw [at_v7, at_v78, coarse_word]
  exact clamp_word _ _
theorem at_v92 (j : Fin 125) (X Y Z : Fin 32) : res_main_v92 V0 (ix4 j X Y Z) = BitVec.ofNat 32 (cl (half Y) (dB j)).val := by
  pointwise [res_main_v92]
  rw [at_v8, at_v79, coarse_word]
  exact clamp_word _ _
theorem at_v98 (j : Fin 125) (X Y Z : Fin 32) : res_main_v98 V0 (ix4 j X Y Z) = BitVec.ofNat 32 (cl (half Z) (dC j)).val := by
  pointwise [res_main_v98]
  rw [at_v9, at_v80, coarse_word]
  exact clamp_word _ _

theorem at_v146 (j : Fin 125) (X Y Z : Fin 32) : res_main_v146 V0 (ix4 j X Y Z)
    = BitVec.ofNat 32 (256 * (cl (half X) (dA j)).val + 16 * (cl (half Y) (dB j)).val + (cl (half Z) (dC j)).val) := by
  pointwise [res_main_v146]
  rw [at_v86, at_v92, at_v98]
  exact flat_word _ _ _

/-- The distance the reference takes from a place to the place an offset reaches. -/
theorem dist_eq (X : Fin 32) (d : Fin 5) (w : BitVec 32) (hw : w = BitVec.ofNat 32 (cl (half X) d).val) :
    ((X.val : ℝ) : EReal) - ((FloatOps.sitofp (F := Ideal) FTy.f32 w + Ideal.ofBits FTy.f32 1056964608#32) * Ideal.ofBits FTy.f32 1073741824#32 - Ideal.ofBits FTy.f32 1056964608#32)
      = (dst X d : EReal) := by
  rw [hw, si _ (by omega), c_half, c_two, ← EReal.coe_add, ← EReal.coe_mul, ← EReal.coe_sub, ← EReal.coe_sub]
  congr 1
  unfold dst
  push_cast
  ring

theorem at_v120 (j : Fin 125) (X Y Z : Fin 32) : res_main_v120 V0 (ix4 j X Y Z) = (dst X (dA j) : EReal) := by
  pointwise [res_main_v120]
  rw [at_v7]
  exact dist_eq X _ _ (at_v86 V0 j X Y Z)
theorem at_v130 (j : Fin 125) (X Y Z : Fin 32) : res_main_v130 V0 (ix4 j X Y Z) = (dst Y (dB j) : EReal) := by
  pointwise [res_main_v130]
  rw [at_v8]
  exact dist_eq Y _ _ (at_v92 V0 j X Y Z)
theorem at_v140 (j : Fin 125) (X Y Z : Fin 32) : res_main_v140 V0 (ix4 j X Y Z) = (dst Z (dC j) : EReal) := by
  pointwise [res_main_v140]
  rw [at_v9]
  exact dist_eq Z _ _ (at_v98 V0 j X Y Z)

/-! ## The radius and the guide at low resolution -/

theorem at_v106 (X Y Z : Fin 32) : res_main_v106 V0 (ix4 0 X Y Z)
    = min ((2 : ℝ) : EReal) (max ((1 : ℝ) : EReal) (Ideal.liftRound Int.ceil (((2 : ℝ) : EReal) * reach (refArgs V0) X Y Z))) := by
  pointwise [res_main_v106]
  simp only [at_v63]
  rw [c_two]
  show min (Ideal.ofBits FTy.f32 1073741824#32) (max (Ideal.ofBits FTy.f32 1065353216#32) _) = _
  rw [c_two, c_one]
  rfl

theorem at_v234 (g : Fin 3) (x y z : Fin 16) : res_main_v234 V0 (ix4 g x y z) = low (refArgs V0) g x y z := by
  pointwise [res_main_v234]
  simp only [at_v229]
  rfl

end Cert.Proof
end
-- ==== Proof.RefOut.lean ====
/- The reference's gathered stages read at an index, down to the result of `Spec`. -/
module

public import proofs.«01_k».proof.Proof.Ref

@[expose] public section

set_option maxRecDepth 16384

noncomputable section

namespace Cert.Proof

open Cert.ReferenceIdeal Cert.ReferenceIdeal.Gen Idealize.ShloMosaic Cert.ReferenceIdeal.Value Idealize.ShloMosaic.Pointwise Idealize.ShloMosaic.StableHlo

variable (V0 : Valuation τ sig (Elt Ideal))

/-! ## Gathers -/

theorem take_apply (x : S4096.Idx → EReal) (idx : IVec S125x32x32x32x1 32) (j : Fin 125) (X Y Z : Fin 32) :
    Host.gather gather_S4096_S125x32x32x32x1_S125x32x32x32_n_0_n_n_0_4_1 x idx (ix4 j X Y Z)
      = x (ix1 ⟨min (idx (ix5 j X Y Z 0)).toInt.toNat 4095, by omega⟩) := by
  unfold Host.gather
  congr 1
  funext a
  obtain rfl : a = 0 := Subsingleton.elim _ _
  refine Fin.ext ?_
  show gather_S4096_S125x32x32x32x1_S125x32x32x32_n_0_n_n_0_4_1.start (ix4 j X Y Z) idx 0 + gather_S4096_S125x32x32x32x1_S125x32x32x32_n_0_n_n_0_4_1.batchCoord (ix4 j X Y Z) 0 + gather_S4096_S125x32x32x32x1_S125x32x32x32_n_0_n_n_0_4_1.offCoord (ix4 j X Y Z) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S4096_S125x32x32x32x1_S125x32x32x32_n_0_n_n_0_4_1.startIndexMap from List.mem_singleton.mpr rfl)]
  have hsi : gather_S4096_S125x32x32x32x1_S125x32x32x32_n_0_n_n_0_4_1.siIdx (ix4 j X Y Z) ⟨List.idxOf (0 : Fin 1) gather_S4096_S125x32x32x32x1_S125x32x32x32_n_0_n_n_0_4_1.startIndexMap, List.idxOf_lt_length_iff.2 (List.mem_singleton.mpr rfl)⟩ = ix5 j X Y Z 0 := by
    funext b; refine Fin.ext ?_
    match b with
    | ⟨0, _⟩ => rfl | ⟨1, _⟩ => rfl | ⟨2, _⟩ => rfl | ⟨3, _⟩ => rfl | ⟨4, _⟩ => rfl
  rw [hsi]; rfl

theorem takeRow_apply (x : S4096x32.Idx → EReal) (idx : IVec S125x32x32x32x1 32) (j : Fin 125) (X Y Z ch : Fin 32) :
    Host.gather gather_S4096x32_S125x32x32x32x1_S125x32x32x32x32_4_0_n_n_0_4_132 x idx (ix5 j X Y Z ch)
      = x (ix2 ⟨min (idx (ix5 j X Y Z 0)).toInt.toNat 4095, by omega⟩ ch) := by
  unfold Host.gather
  congr 1
  funext a
  refine Fin.ext ?_
  match a with
  | ⟨0, _⟩ =>
    show gather_S4096x32_S125x32x32x32x1_S125x32x32x32x32_4_0_n_n_0_4_132.start (ix5 j X Y Z ch) idx 0 + gather_S4096x32_S125x32x32x32x1_S125x32x32x32x32_4_0_n_n_0_4_132.batchCoord (ix5 j X Y Z ch) 0 + gather_S4096x32_S125x32x32x32x1_S125x32x32x32x32_4_0_n_n_0_4_132.offCoord (ix5 j X Y Z ch) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S4096x32_S125x32x32x32x1_S125x32x32x32x32_4_0_n_n_0_4_132.startIndexMap from List.mem_singleton.mpr rfl)]
    have hsi : gather_S4096x32_S125x32x32x32x1_S125x32x32x32x32_4_0_n_n_0_4_132.siIdx (ix5 j X Y Z ch) ⟨List.idxOf (0 : Fin 2) gather_S4096x32_S125x32x32x32x1_S125x32x32x32x32_4_0_n_n_0_4_132.startIndexMap, List.idxOf_lt_length_iff.2 (List.mem_singleton.mpr rfl)⟩ = ix5 j X Y Z 0 := by
      funext b; refine Fin.ext ?_
      match b with
      | ⟨0, _⟩ => rfl | ⟨1, _⟩ => rfl | ⟨2, _⟩ => rfl | ⟨3, _⟩ => rfl | ⟨4, _⟩ => rfl
    rw [hsi]; rfl
  | ⟨1, _⟩ =>
    show gather_S4096x32_S125x32x32x32x1_S125x32x32x32x32_4_0_n_n_0_4_132.start (ix5 j X Y Z ch) idx 1 + gather_S4096x32_S125x32x32x32x1_S125x32x32x32x32_4_0_n_n_0_4_132.batchCoord (ix5 j X Y Z ch) 1 + gather_S4096x32_S125x32x32x32x1_S125x32x32x32x32_4_0_n_n_0_4_132.offCoord (ix5 j X Y Z ch) 1 = _
    rw [GatherDims.batchCoord_eq_zero _ _ _ List.not_mem_nil]
    unfold GatherDims.start
    rw [dif_neg (show (1 : Fin 2) ∉ gather_S4096x32_S125x32x32x32x1_S125x32x32x32x32_4_0_n_n_0_4_132.startIndexMap from fun h => absurd (List.mem_singleton.mp h) (by decide)), Nat.zero_add]
    rfl

/-- The row a gathered place names. -/
def flat (x y z : Fin 16) : Fin 4096 := ⟨256 * x.val + 16 * y.val + z.val, by omega⟩

theorem flat_take : ∀ x y z : Fin 16, min (Scalar.select (IntOp.cmpi .slt (BitVec.ofNat 32 (256 * x.val + 16 * y.val + z.val)) 0#32)
      (IntOp.addi (BitVec.ofNat 32 (256 * x.val + 16 * y.val + z.val)) 4096#32) (BitVec.ofNat 32 (256 * x.val + 16 * y.val + z.val))).toInt.toNat 4095
    = 256 * x.val + 16 * y.val + z.val := by
  decide +kernel

theorem at_idx (j : Fin 125) (X Y Z : Fin 32) : (broadcastInDim S125x32x32x32x1 ![0, 1, 2, 3] bcast_S125x32x32x32_S125x32x32x32x1_0_1_2_3 (select (cmpi .slt (res_main_v146 V0) (broadcastInDim S125x32x32x32 ![] bcast_S_S125x32x32x32 (constantI S_ 32 0#32))) (addi (res_main_v146 V0) (broadcastInDim S125x32x32x32 ![] bcast_S_S125x32x32x32 (constantI S_ 32 4096#32))) (res_main_v146 V0))) (ix5 j X Y Z 0)
    = Scalar.select (IntOp.cmpi .slt (res_main_v146 V0 (ix4 j X Y Z)) 0#32) (IntOp.addi (res_main_v146 V0 (ix4 j X Y Z)) 4096#32) (res_main_v146 V0 (ix4 j X Y Z)) := by
  pointwise

theorem row_at (w v : BitVec 32) (hw : w = Scalar.select (IntOp.cmpi .slt v 0#32) (IntOp.addi v 4096#32) v) (x y z : Fin 16) (hv : v = BitVec.ofNat 32 (256 * x.val + 16 * y.val + z.val))
    (h : min w.toInt.toNat 4095 < 4096) : (⟨min w.toInt.toNat 4095, h⟩ : Fin 4096) = flat x y z := by
  refine Fin.ext ?_
  subst hw hv
  exact flat_take x y z

theorem take_at (x : S4096.Idx → EReal) (j : Fin 125) (X Y Z : Fin 32) :
    Host.gather gather_S4096_S125x32x32x32x1_S125x32x32x32_n_0_n_n_0_4_1 x (broadcastInDim S125x32x32x32x1 ![0, 1, 2, 3] bcast_S125x32x32x32_S125x32x32x32x1_0_1_2_3 (select (cmpi .slt (res_main_v146 V0) (broadcastInDim S125x32x32x32 ![] bcast_S_S125x32x32x32 (constantI S_ 32 0#32))) (addi (res_main_v146 V0) (broadcastInDim S125x32x32x32 ![] bcast_S_S125x32x32x32 (constantI S_ 32 4096#32))) (res_main_v146 V0))) (ix4 j X Y Z)
      = x (ix1 (flat (cl (half X) (dA j)) (cl (half Y) (dB j)) (cl (half Z) (dC j)))) := by
  rw [take_apply]
  exact congrArg (fun r => x (ix1 r)) (row_at _ _ (at_idx V0 j X Y Z) _ _ _ (at_v146 V0 j X Y Z) _)

theorem takeRow_at (x : S4096x32.Idx → EReal) (j : Fin 125) (X Y Z ch : Fin 32) :
    Host.gather gather_S4096x32_S125x32x32x32x1_S125x32x32x32x32_4_0_n_n_0_4_132 x (broadcastInDim S125x32x32x32x1 ![0, 1, 2, 3] bcast_S125x32x32x32_S125x32x32x32x1_0_1_2_3 (select (cmpi .slt (res_main_v146 V0) (broadcastInDim S125x32x32x32 ![] bcast_S_S125x32x32x32 (constantI S_ 32 0#32))) (addi (res_main_v146 V0) (broadcastInDim S125x32x32x32 ![] bcast_S_S125x32x32x32 (constantI S_ 32 4096#32))) (res_main_v146 V0))) (ix5 j X Y Z ch)
      = x (ix2 (flat (cl (half X) (dA j)) (cl (half Y) (dB j)) (cl (half Z) (dC j))) ch) := by
  rw [takeRow_apply]
  exact congrArg (fun r => x (ix2 r ch)) (row_at _ _ (at_idx V0 j X Y Z) _ _ _ (at_v146 V0 j X Y Z) _)

theorem flat5 (x : S1x1x16x16x16.Idx → EReal) (a b c : Fin 16) : shapeCast S4096 x shapeCasts_S1x1x16x16x16_S4096 (ix1 (flat a b c)) = x (ix5 0 0 a b c) := by
  refine shapeCast_apply _ _ _ _ ?_
  rw [rowMajor_val5 _ 4096 4096 256 16 rfl rfl rfl rfl, rowMajor_val1]
  show 0 * 4096 + 0 * 4096 + a.val * 256 + b.val * 16 + c.val = 256 * a.val + 16 * b.val + c.val
  omega

theorem flat3 (x : S1x16x16x16.Idx → EReal) (h : S1x16x16x16.ShapeCasts S4096) (a b c : Fin 16) : shapeCast S4096 x h (ix1 (flat a b c)) = x (ix4 0 a b c) := by
  refine shapeCast_apply _ _ _ _ ?_
  rw [rowMajor_val4 _ 4096 256 16 rfl rfl rfl, rowMajor_val1]
  show 0 * 4096 + a.val * 256 + b.val * 16 + c.val = 256 * a.val + 16 * b.val + c.val
  omega

theorem flat4 (x : S16x16x16x32.Idx → EReal) (a b c : Fin 16) (ch : Fin 32) : shapeCast S4096x32 x shapeCasts_S16x16x16x32_S4096x32 (ix2 (flat a b c) ch) = x (ix4 a b c ch) := by
  refine shapeCast_apply _ _ _ _ ?_
  rw [rowMajor_val4 _ 8192 512 32 rfl rfl rfl, rowMajor_val2 _ 32 rfl]
  show a.val * 8192 + b.val * 512 + c.val * 32 + ch.val = (256 * a.val + 16 * b.val + c.val) * 32 + ch.val
  omega

theorem at_v156 (j : Fin 125) (X Y Z : Fin 32) : res_main_v156 V0 (ix4 j X Y Z)
    = max (Ideal.exp ((refArgs V0).raw 0 (cl (half X) (dA j)) (cl (half Y) (dB j)) (cl (half Z) (dC j)))) eps := by
  unfold res_main_v156
  refine congrArg (fun t : EReal => max t eps) ((take_at V0 _ j X Y Z).trans ((flat5 _ _ _ _).trans ?_))
  rfl

theorem at_v166 (j : Fin 125) (X Y Z : Fin 32) : res_main_v166 V0 (ix4 j X Y Z)
    = max (Ideal.exp ((refArgs V0).raw 1 (cl (half X) (dA j)) (cl (half Y) (dB j)) (cl (half Z) (dC j)))) eps := by
  unfold res_main_v166
  refine congrArg (fun t : EReal => max t eps) ((take_at V0 _ j X Y Z).trans ((flat5 _ _ _ _).trans ?_))
  rfl

theorem at_v176 (j : Fin 125) (X Y Z : Fin 32) : res_main_v176 V0 (ix4 j X Y Z)
    = max (Ideal.exp ((refArgs V0).raw 2 (cl (half X) (dA j)) (cl (half Y) (dB j)) (cl (half Z) (dC j)))) eps := by
  unfold res_main_v176
  refine congrArg (fun t : EReal => max t eps) ((take_at V0 _ j X Y Z).trans ((flat5 _ _ _ _).trans ?_))
  rfl

theorem at_v186 (j : Fin 125) (X Y Z : Fin 32) : res_main_v186 V0 (ix4 j X Y Z)
    = max (Ideal.exp ((refArgs V0).raw 3 (cl (half X) (dA j)) (cl (half Y) (dB j)) (cl (half Z) (dC j)))) eps := by
  unfold res_main_v186
  refine congrArg (fun t : EReal => max t eps) ((take_at V0 _ j X Y Z).trans ((flat5 _ _ _ _).trans ?_))
  rfl

theorem at_v250 (j : Fin 125) (X Y Z : Fin 32) : res_main_v250 V0 (ix4 j X Y Z)
    = gdiff (refArgs V0) X Y Z (cl (half X) (dA j)) (cl (half Y) (dB j)) (cl (half Z) (dC j)) 0 := by
  pointwise [res_main_v250]
  rw [take_at, flat3]
  pointwise
  rw [at_v234]
  rfl

theorem at_v267 (j : Fin 125) (X Y Z : Fin 32) : res_main_v267 V0 (ix4 j X Y Z)
    = gdiff (refArgs V0) X Y Z (cl (half X) (dA j)) (cl (half Y) (dB j)) (cl (half Z) (dC j)) 1 := by
  pointwise [res_main_v267]
  rw [take_at, flat3]
  pointwise
  rw [at_v234]
  rfl

theorem at_v284 (j : Fin 125) (X Y Z : Fin 32) : res_main_v284 V0 (ix4 j X Y Z)
    = gdiff (refArgs V0) X Y Z (cl (half X) (dA j)) (cl (half Y) (dB j)) (cl (half Z) (dC j)) 2 := by
  pointwise [res_main_v284]
  rw [take_at, flat3]
  pointwise
  rw [at_v234]
  rfl

theorem si_word (w : BitVec 32) (n : ℤ) (h : w.toInt = n) : FloatOps.sitofp (F := Ideal) FTy.f32 w = ((n : ℝ) : EReal) := by
  show ((w.toInt : ℝ) : EReal) = _
  rw [h]

theorem len_word : ∀ a b c : Fin 5, (IntOp.addi (IntOp.addi (IntOp.muli (BitVec.ofInt 32 (a.val - 2)) (BitVec.ofInt 32 (a.val - 2))) (IntOp.muli (BitVec.ofInt 32 (b.val - 2)) (BitVec.ofInt 32 (b.val - 2))))
    (IntOp.muli (BitVec.ofInt 32 (c.val - 2)) (BitVec.ofInt 32 (c.val - 2))) : BitVec 32).toInt = len a b c := by
  decide +kernel

theorem at_v295 (j : Fin 125) (X Y Z : Fin 32) : res_main_v295 V0 (ix4 j X Y Z) = T (refArgs V0) X Y Z j := by
  pointwise [res_main_v295]
  rw [at_v78, at_v79, at_v80, si_word _ _ (len_word _ _ _), at_v106, at_v120, at_v130, at_v140, at_v156, at_v166, at_v176, at_v186, at_v250, at_v267, at_v284, c_two]
  unfold T mlog keep
  by_cases h : len (dA j) (dB j) (dC j) ≤ 1 ∨ len (dA j) (dB j) (dC j) ≤ 4 ∧ ((1 / 2 : ℝ) : EReal) < reach (refArgs V0) X Y Z
  · rw [if_pos h, if_pos ((keep_iff _ _).mpr h)]
    rfl
  · rw [if_neg h, if_neg (fun h' => h ((keep_iff _ _).mp h'))]
    exact c_bot

theorem drop_eq (i : S125x32x32x32.Idx) : reducesTo_S125x32x32x32_S32x32x32_d0.drop i = ix3 (i 1) (i 2) (i 3) := by
  funext a
  match a with
  | ⟨0, _⟩ => rfl
  | ⟨1, _⟩ => rfl
  | ⟨2, _⟩ => rfl

theorem at_top (X Y Z : Fin 32) (f : S125x32x32x32.Idx → EReal) [DecidablePred fun i : S125x32x32x32.Idx => reducesTo_S125x32x32x32_S32x32x32_d0.drop i = ix3 X Y Z] :
    Finset.fold max (⊥ : EReal) f (Finset.univ.filter fun i => reducesTo_S125x32x32x32_S32x32x32_d0.drop i = ix3 X Y Z) = Finset.univ.sup fun j => f (ix4 j X Y Z) := by
  show Finset.sup _ f = _
  refine le_antisymm (Finset.sup_le fun i hi => ?_) (Finset.sup_le fun j _ => Finset.le_sup (f := f) ?_)
  · have h := (Finset.mem_filter.mp hi).2
    rw [drop_eq] at h
    have e : i = ix4 (i 0) X Y Z := by
      funext a
      match a with
      | ⟨0, _⟩ => rfl
      | ⟨1, _⟩ => exact congrFun h 0
      | ⟨2, _⟩ => exact congrFun h 1
      | ⟨3, _⟩ => exact congrFun h 2
    rw [e]
    exact Finset.le_sup (f := fun j => f (ix4 j X Y Z)) (Finset.mem_univ (i 0))
  · exact Finset.mem_filter.mpr ⟨Finset.mem_univ _, drop_eq _⟩

theorem at_v300 (j : Fin 125) (X Y Z : Fin 32) : res_main_v300 V0 (ix4 j X Y Z) = ew (refArgs V0) X Y Z j := by
  pointwise [res_main_v300]
  rw [c_bot, at_v295]
  refine congrArg (fun t : EReal => Ideal.exp (T (refArgs V0) X Y Z j - t)) ((at_top X Y Z (res_main_v295 V0)).trans ?_)
  simp only [at_v295]
  rfl

theorem at_result (ch X Y Z : Fin 32) : val7 V0 (Proc.devRef .tc main_v319) (ix5 0 ch X Y Z) = result (refArgs V0) ch X Y Z := by
  rw [val7_main_v319]
  pointwise
  simp only [at_v300]
  refine congrArg (fun t : EReal => Ideal.div t (max (∑ j, ew (refArgs V0) X Y Z j) del)) (Finset.sum_congr rfl fun j _ => ?_)
  refine congrArg (fun t : EReal => ew (refArgs V0) X Y Z j * t) ((takeRow_at V0 _ j X Y Z ch).trans ((flat4 _ _ _ _ _).trans ?_))
  pointwise
  rfl

end Cert.Proof
end
-- ==== Proof.Algebraic.lean ====
/- The kernel's result is the reference's. -/
module

public import proofs.«01_k».proof.Defs
public import proofs.«01_k».proof.Proof.KRun
public import proofs.«01_k».proof.Proof.RefOut

@[expose] public section

set_option maxRecDepth 16384

noncomputable section

namespace Cert.Proof

open Idealize.ShloMosaic Idealize.ShloMosaic.TcCoe Idealize.ShloMosaic.Pointwise Idealize.SL.Sem

/-- The reference's result array. -/
theorem ref_final (V0 : Valuation Cert.ReferenceIdeal.τ Cert.ReferenceIdeal.sig (Elt Ideal)) :
    Cert.ReferenceIdeal.Value.val7 V0 (Proc.devRef .tc Cert.ReferenceIdeal.main_v319) = final (refArgs V0) := by
  funext y
  obtain ⟨b, ch, X, Y, Z, rfl⟩ : ∃ (b : Fin 1) (ch X Y Z : Fin 32), y = ix5 b ch X Y Z := ⟨y 0, y 1, y 2, y 3, y 4, by funext j; fin_cases j <;> rfl⟩
  have hb : b = 0 := Subsingleton.elim _ _
  subst hb
  exact at_result V0 ch X Y Z

/-- The kernel's program ends with the result and its arguments as they were. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v18) = final (kerArgs m c)) :=
  (θ_run Cert.KernelIdeal.defs _ _).mono
    (fun _ h c => ((h c).2 Cert.KernelIdeal.main_v18 (Pipeline.mem_restRefs_of Cert.KernelIdeal.main_v18 (by decide) (by decide))).trans (result_eq m c))
    (Cert.KernelIdeal.Gen.run_main m g)

theorem algebraic : Cert.algebraic_KernelIdeal_ReferenceIdeal := by
  intro m g m' g' _ hagree
  refine ⟨fun c => final (kerArgs m c), ?_, ?_⟩
  · exact (θ_run Cert.KernelIdeal.defs _ _).mono (fun _ h c => ⟨h.1 c, h.2 c⟩) (θ_run_and (kernel_run m g) (Cert.KernelIdeal.Gen.unchanged m g))
  · refine (θ_run Cert.ReferenceIdeal.defs _ _).mono (fun _ h c => ⟨(h c).1.trans ?_, (h c).2⟩) (Cert.ReferenceIdeal.Value.run (F := Ideal) m' g')
    refine (Cert.ReferenceIdeal.Value.val7_main_v319 (StableHlo.launchContents m' c)).symm.trans ((ref_final _).trans (congrArg final ?_))
    obtain ⟨h0, h1, h2, h3, h4, h5⟩ := hagree c
    unfold refArgs kerArgs
    congr 1
    · funext ch x y z; exact congrFun h0 _
    · funext ch x y z; exact congrFun h1 _
    · funext i x y z
      fin_cases i
      · exact congrFun h2 _
      · exact congrFun h3 _
      · exact congrFun h4 _
      · exact congrFun h5 _

end Cert.Proof
end
-- ==== Proof.lean ====
/- The proof of the five claims: each program runs to the end and leaves its arguments alone, the idealized kernel differs
   from the kernel in its two named constants only, and its result is the reference's. -/
module

public import proofs.«01_k».proof.Defs
public import proofs.«01_k».proof.Proof.Claims
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
